-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_no_precondition [hKernelIdeal : Cert.KernelIdeal.Facts] [hReferenceIdeal : Cert.ReferenceIdeal.Facts] [hOn_no_precondition : Cert.On_no_precondition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 256, 32, 32]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨1, ![8192]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 256, 32, 32]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v31) i = v0 c i)
          ∧ (∀ i : (⟨0, ![]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v28) i = v1 c i)
          ∧ (∀ i : (⟨1, ![8192]⟩ : Shape).Idx, (Cert.On_no_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v16) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_no_precondition : Cert.On_no_precondition.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_no_precondition (hKernelIdeal := hKernelIdeal) (hReferenceIdeal := hReferenceIdeal) (hOn_no_precondition := hOn_no_precondition)
-- ==== On_no_precondition.lean ====
abbrev S8x256x32x32 : Shape := ⟨4, ![8, 256, 32, 32]⟩
abbrev S1024x256 : Shape := ⟨2, ![1024, 256]⟩
abbrev S_ : Shape := ⟨0, ![]⟩
abbrev S8192 : Shape := ⟨1, ![8192]⟩

class Facts : Prop where
  bcast_S_S8x256x32x32 : S_.BroadcastsInDim S8x256x32x32 (![] : Fin 0 → Fin S8x256x32x32.rank)
  bcast_S_S8192 : S_.BroadcastsInDim S8192 (![] : Fin 0 → Fin S8192.rank)

variable [Facts]

def fn {F : FTy → Type} [FloatOps F] (main_arg0 : FVec F S8x256x32x32 .f32) (main_arg1 : FVec F S1024x256 .f32) : IVec S8x256x32x32 1 × IVec S_ 1 × IVec S8192 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S8192 1 := broadcastInDim S8192 ![] bcast_S_S8192 main_c
  let main_c_0 : IVec S_ 1 := constantI S_ 1 0#1
  (main_v2, main_c_0, main_v3)
-- ==== Pre_finite.lean ====
abbrev S8x256x32x32 : Shape := ⟨4, ![8, 256, 32, 32]⟩
abbrev S1024x256 : Shape := ⟨2, ![1024, 256]⟩
abbrev S_ : Shape := ⟨0, ![]⟩

class Facts : Prop where
  bcast_S_S8x256x32x32 : S_.BroadcastsInDim S8x256x32x32 (![] : Fin 0 → Fin S8x256x32x32.rank)
  bcast_S_S1024x256 : S_.BroadcastsInDim S1024x256 (![] : Fin 0 → Fin S1024x256.rank)

variable [Facts]

def fn {F : FTy → Type} [FloatOps F] (main_arg0 : FVec F S8x256x32x32 .f32) (main_arg1 : FVec F S1024x256 .f32) : IVec S8x256x32x32 1 × IVec S1024x256 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S8x256x32x32 : Shape := ⟨4, ![8, 256, 32, 32]⟩
abbrev S1024x256 : Shape := ⟨2, ![1024, 256]⟩
abbrev S8x256x1024 : Shape := ⟨3, ![8, 256, 1024]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8x1x1024 : Shape := ⟨3, ![8, 1, 1024]⟩
abbrev S1024 : Shape := ⟨1, ![1024]⟩
abbrev S1024x1 : Shape := ⟨2, ![1024, 1]⟩
abbrev S1x1 : Shape := ⟨2, ![1, 1]⟩
abbrev S1x256x1024 : Shape := ⟨3, ![1, 256, 1024]⟩
abbrev S1x1x1024 : Shape := ⟨3, ![1, 1, 1024]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩

abbrev nBuf : Space → Nat
  | .hbm => 21
  | .vmem => 11
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x256x1024, .f32⟩
  | .hbm, ⟨3, _⟩ => ⟨S8x32x32x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8x1x1024, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S8x256x1024, .f32⟩
  | .hbm, ⟨14, _⟩ => ⟨S8x1x1024, .i32⟩
  | .hbm, ⟨15, _⟩ => ⟨S1x1, .f32⟩
  | .hbm, ⟨16, _⟩ => ⟨S8192, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x1x1024, .f32⟩
  | .local _ .vmem, ⟨4, _⟩ => ⟨S1x1x1024, .f32⟩
  | .local _ .vmem, ⟨5, _⟩ => ⟨S1024x1, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .i32⟩
  | .local _ .vmem, ⟨9, _⟩ => ⟨S1x1x1024, .i32⟩
  | .local _ .vmem, ⟨10, _⟩ => ⟨S1x1, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_v7 : Ref sig .tc := ⟨.hbm, 11, rfl⟩
abbrev main_call0_v8 : Ref sig .tc := ⟨.hbm, 12, rfl⟩
abbrev main_call0_v9_0 : Ref sig .tc := ⟨.hbm, 13, rfl⟩
abbrev main_call0_v9_1 : Ref sig .tc := ⟨.hbm, 14, rfl⟩
abbrev main_call0_v9_2 : Ref sig .tc := ⟨.hbm, 15, rfl⟩
abbrev main_v0_2 : Ref sig .tc := ⟨.hbm, 16, rfl⟩
abbrev main_call0_v11 : Ref sig .tc := ⟨.hbm, 17, rfl⟩
abbrev main_call0_cst_1 : Ref sig .tc := ⟨.hbm, 18, rfl⟩
abbrev main_v0_1 : Ref sig .tc := ⟨.hbm, 19, rfl⟩
abbrev main_v0_0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8x32x32x256, .f32⟩
  | .hbm, ⟨50, _⟩ => ⟨S8x32x32x256, .f32⟩
  | .hbm, ⟨51, _⟩ => ⟨S8x32x32x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x32x32x256, .f32⟩
  | .hbm, ⟨59, _⟩ => ⟨S8x32x32x256, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x32x32x256, .f32⟩
  | .hbm, ⟨66, _⟩ => ⟨S8x32x32x256, .f32⟩
  | .hbm, ⟨67, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.RefRun.lean ====
/-
  The run of the REFERENCE (../ReferenceIdeal.lean): @main is a straight line of host operations once the arg-min's, the
  look-up's and the select's bodies stand at their calls. The line is cut in four pieces (distances, arg-min, look-up,
  results), each piece read as a function of the buffers it starts from (`dist`, `argOf`, `takeOf`, `lossOf`, `zqOf`), so that
  no piece's term is repeated inside the next one's.
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What each piece computes -/

/-- The channels moved last. -/
def nhwc (z : FVec F S8x256x32x32 .f32) : FVec F S8x32x32x256 .f32 :=
  transpose S8x32x32x256 [0, 2, 3, 1] z transposes_S8x256x32x32_S8x32x32x256_0_2_3_1

/-- The 8192 token rows. -/
def rows (z : FVec F S8x256x32x32 .f32) : FVec F S8192x256 .f32 :=
  shapeCast S8192x256 (nhwc z) shapeCasts_S8x32x32x256_S8192x256

/-- The distance of each token from each codebook row: squared norms added, twice the products taken off. -/
def dist (z : FVec F S8x256x32x32 .f32) (W : FVec F S1024x256 .f32) : FVec F S8192x1024 .f32 :=
  subf
    (addf
      (broadcastInDim S8192x1024 ![0, 1] bcast_S8192x1_S8192x1024_0_1
        (broadcastInDim S8192x1 ![0] bcast_S8192_S8192x1_0
          (Host.reduceAdd (mulf (rows z) (rows z)) (constant S_ .f32 0x00000000#32) reducesTo_S8192x256_S8192_d1 h_S_)))
      (broadcastInDim S8192x1024 ![0, 1] bcast_S1x1024_S8192x1024_0_1
        (broadcastInDim S1x1024 ![1] bcast_S1024_S1x1024_1
          (Host.reduceAdd (mulf W W) (constant S_ .f32 0x00000000#32) reducesTo_S1024x256_S1024_d1 h_S_))))
    (mulf (broadcastInDim S8192x1024 ![] bcast_S_S8192x1024 (constant S_ .f32 0x40000000#32))
      (Host.dotGeneral dot_S8192x256_S256x1024_S8192x1024_1_0_0_1_n_n none (rows z)
        (transpose S256x1024 [1, 0] W transposes_S1024x256_S256x1024_1_0)))

/-- The arg-min of each row. -/
def argOf (d : FVec F S8192x1024 .f32) : IVec S8192 32 := fun j =>
  (Host.argReduce reducer_argmin_f32_i32 d (iotaInDim S8192x1024 32 1) (constant S_ .f32 0x7F800000#32) (constantI S_ 32 0#32)
    reducesTo_S8192x1024_S8192_d1 h_S_ j).2

/-- An index with 1024 added where it is negative, as a column. -/
def wrapped (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether an index lies in `[0, 1023]`. -/
def inRange (i : IVec S8192x1 32) : IVec S8192 1 :=
  Host.reduce IntOp.andi
    (andi (cmpi .sge i (broadcastInDim S8192x1 ![] bcast_S_S8192x1 (constantI S_ 32 0#32)))
      (cmpi .sle i (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The looked-up rows: the codebook's where the index is in range, the not-a-number pattern elsewhere. -/
def takeOf (W : FVec F S1024x256 .f32) (i : IVec S8192 32) : FVec F S8192x256 .f32 :=
  select (broadcastInDim S8192x256 ![0] bcast_S8192_S8192x256_0 (inRange (wrapped i)))
    (Host.gather gather_S1024x256_S8192x1_S8192x256_1_0_n_n_0_1_1256 W (wrapped i))
    (broadcastInDim S8192x256 ![] bcast_S_S8192x256 (constant S_ .f32 0x7FC00000#32))

/-- The looked-up rows in the image's shape, channels last. -/
def rowsBack (t : FVec F S8192x256 .f32) : FVec F S8x32x32x256 .f32 := shapeCast S8x32x32x256 t shapeCasts_S8192x256_S8x32x32x256

/-- The mean of the squared differences, as a quotient by the number of elements. -/
def meanSq (t p : FVec F S8x32x32x256 .f32) : FVec F S_ .f32 :=
  Host.divf (Host.reduceAdd (mulf (subf t p) (subf t p)) (constant S_ .f32 0x00000000#32) reducesTo_S8x32x32x256_S_d0_1_2_3 h_S_)
    (constant S_ .f32 0x4A000000#32)

/-- The loss: a quarter of the mean and the mean. -/
def lossOf (t p : FVec F S8x32x32x256 .f32) : FVec F S_ .f32 :=
  addf (mulf (constant S_ .f32 0x3E800000#32) (meanSq t p)) (meanSq t p)

/-- The straight-through result, channels moved back. -/
def zqOf (t p : FVec F S8x32x32x256 .f32) : FVec F S8x256x32x32 .f32 :=
  transpose S8x256x32x32 [0, 3, 1, 2] (addf p (subf t p)) transposes_S8x32x32x256_S8x256x32x32_0_3_1_2

/-! ## The line of operations -/

/-- the token rows, the squared norms and the distances. -/
abbrev opsDist : List (HloOp τ sig (Elt F)) :=
  [ StableHlo.unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    StableHlo.reshape main_v0 main_v1 (rfl : (.f32 : EltTy) = .f32) shapeCasts_S8x32x32x256_S8192x256,
    StableHlo.binary main_v1 main_v1 main_v2 (mulf : (⟨S8192x256, .f32⟩ : BufTy).Contents (Elt F) → (⟨S8192x256, .f32⟩ : BufTy).Contents (Elt F) → (⟨S8192x256, .f32⟩ : BufTy).Contents (Elt F)),
    StableHlo.nullary main_cst (constant S_ .f32 0x00000000#32),
    StableHlo.binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    StableHlo.nullary main_cst_0 (constant S_ .f32 0x00000000#32),
    StableHlo.binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v6 main_v7 (broadcastInDim S1x1024 ![1] bcast_S1024_S1x1024_1 : (⟨S1024, .f32⟩ : BufTy).Contents (Elt F) → (⟨S1x1024, .f32⟩ : BufTy).Contents (Elt F)),
    StableHlo.unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    StableHlo.unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    StableHlo.unary main_arg1 main_v11 ((transpose S256x1024 [1, 0] · transposes_S1024x256_S256x1024_1_0) : (⟨S1024x256, .f32⟩ : BufTy).Contents (Elt F) → (⟨S256x1024, .f32⟩ : BufTy).Contents (Elt F)),
    StableHlo.binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.nullary main_cst_1 (constant S_ .f32 0x40000000#32),
    StableHlo.unary main_cst_1 main_v13 (broadcastInDim S8192x1024 ![] bcast_S_S8192x1024 : (⟨S_, .f32⟩ : BufTy).Contents (Elt F) → (⟨S8192x1024, .f32⟩ : BufTy).Contents (Elt F)),
    StableHlo.binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    StableHlo.binary main_v10 main_v14 main_v15 (subf : (⟨S8192x1024, .f32⟩ : BufTy).Contents (Elt F) → (⟨S8192x1024, .f32⟩ : BufTy).Contents (Elt F) → (⟨S8192x1024, .f32⟩ : BufTy).Contents (Elt F)) ]

theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- the arg-min of each row of distances. -/
abbrev opsArg : List (HloOp τ sig (Elt F)) :=
  [ TRef.nullary main_call0.v0 (iotaInDim S8192x1024 32 1),
    TRef.nullary main_call0.cst (constant S_ .f32 0x7F800000#32),
    TRef.nullary main_call0.c (constantI S_ 32 0#32),
    TRef.quaternary (.of main_v15 : StableHlo.TRef sig ⟨S8192x1024, .f32⟩) main_call0.v0 main_call0.cst main_call0.c main_call0.v1_0 (fun x y u v j => (Host.argReduce reducer_argmin_f32_i32 x y u v reducesTo_S8192x1024_S8192_d1 h_S_ j).1),
    TRef.quaternary (.of main_v15 : StableHlo.TRef sig ⟨S8192x1024, .f32⟩) main_call0.v0 main_call0.cst main_call0.c main_call0.v1_1 (fun x y u v j => (Host.argReduce reducer_argmin_f32_i32 x y u v reducesTo_S8192x1024_S8192_d1 h_S_ j).2) ]

theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩

/-- the look-up of the codebook rows, with its two guards. -/
abbrev opsTake : List (HloOp τ sig (Elt F)) :=
  [ TRef.nullary main_call1.c (constantI S_ 32 0#32),
    TRef.unary main_call1.c main_call1.v0 (broadcastInDim S8192 ![] bcast_S_S8192),
    TRef.binary (.of main_v16 : StableHlo.TRef sig ⟨S8192, .i32⟩) main_call1.v0 main_call1.v1 (cmpi .slt),
    TRef.nullary main_call1.c_0 (constantI S_ 32 1024#32),
    TRef.unary main_call1.c_0 main_call1.v2 (broadcastInDim S8192 ![] bcast_S_S8192),
    TRef.binary (.of main_v16 : StableHlo.TRef sig ⟨S8192, .i32⟩) main_call1.v2 main_call1.v3 addi,
    TRef.ternary main_call1.v1 main_call1.v3 (.of main_v16 : StableHlo.TRef sig ⟨S8192, .i32⟩) main_call1_call0.v0 select,
    TRef.unary main_call1_call0.v0 main_call1.v5 (broadcastInDim S8192x1 ![0] bcast_S8192_S8192x1_0),
    TRef.nullary main_call1.c_1 (constantI S1 32 1023#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg1 : StableHlo.TRef sig ⟨S1024x256, .f32⟩) main_call1.v5 main_call1.v13 (fun x i => Host.gather gather_S1024x256_S8192x1_S8192x256_1_0_n_n_0_1_1256 x i),
    TRef.unary main_call1.v12 main_call1.v14 (broadcastInDim S8192x256 ![0] bcast_S8192_S8192x256_0),
    TRef.nullary main_call1.cst (constant S_ .f32 0x7FC00000#32),
    TRef.unary main_call1.cst main_call1.v15 (broadcastInDim S8192x256 ![] bcast_S_S8192x256),
    TRef.ternary main_call1.v14 main_call1.v13 main_call1.v15 main_call1.v16 select ]

theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- the loss and the straight-through result. -/
abbrev opsTail : List (HloOp τ sig (Elt F)) :=
  [ StableHlo.reshape main_v17 main_v18 (rfl : (.f32 : EltTy) = .f32) shapeCasts_S8192x256_S8x32x32x256,
    StableHlo.binary main_v18 main_v0 main_v19 (subf : (⟨S8x32x32x256, .f32⟩ : BufTy).Contents (Elt F) → (⟨S8x32x32x256, .f32⟩ : BufTy).Contents (Elt F) → (⟨S8x32x32x256, .f32⟩ : BufTy).Contents (Elt F)),
    StableHlo.binary main_v19 main_v19 main_v20 (mulf : (⟨S8x32x32x256, .f32⟩ : BufTy).Contents (Elt F) → (⟨S8x32x32x256, .f32⟩ : BufTy).Contents (Elt F) → (⟨S8x32x32x256, .f32⟩ : BufTy).Contents (Elt F)),
    StableHlo.nullary main_cst_2 (constant S_ .f32 0x00000000#32),
    StableHlo.binary main_v20 main_cst_2 main_v21 ((fun x v => Host.reduceAdd x v reducesTo_S8x32x32x256_S_d0_1_2_3 h_S_) : (⟨S8x32x32x256, .f32⟩ : BufTy).Contents (Elt F) → (⟨S_, .f32⟩ : BufTy).Contents (Elt F) → (⟨S_, .f32⟩ : BufTy).Contents (Elt F)),
    StableHlo.nullary main_cst_3 (constant S_ .f32 0x4A000000#32),
    StableHlo.binary main_v21 main_cst_3 main_v22 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3E800000#32),
    StableHlo.binary main_cst_4 main_v22 main_v23 (mulf : (⟨S_, .f32⟩ : BufTy).Contents (Elt F) → (⟨S_, .f32⟩ : BufTy).Contents (Elt F) → (⟨S_, .f32⟩ : BufTy).Contents (Elt F)),
    StableHlo.binary main_v18 main_v0 main_v24 (subf : (⟨S8x32x32x256, .f32⟩ : BufTy).Contents (Elt F) → (⟨S8x32x32x256, .f32⟩ : BufTy).Contents (Elt F) → (⟨S8x32x32x256, .f32⟩ : BufTy).Contents (Elt F)),
    StableHlo.binary main_v24 main_v24 main_v25 (mulf : (⟨S8x32x32x256, .f32⟩ : BufTy).Contents (Elt F) → (⟨S8x32x32x256, .f32⟩ : BufTy).Contents (Elt F) → (⟨S8x32x32x256, .f32⟩ : BufTy).Contents (Elt F)),
    StableHlo.nullary main_cst_5 (constant S_ .f32 0x00000000#32),
    StableHlo.binary main_v25 main_cst_5 main_v26 ((fun x v => Host.reduceAdd x v reducesTo_S8x32x32x256_S_d0_1_2_3 h_S_) : (⟨S8x32x32x256, .f32⟩ : BufTy).Contents (Elt F) → (⟨S_, .f32⟩ : BufTy).Contents (Elt F) → (⟨S_, .f32⟩ : BufTy).Contents (Elt F)),
    StableHlo.nullary main_cst_6 (constant S_ .f32 0x4A000000#32),
    StableHlo.binary main_v26 main_cst_6 main_v27 (Host.divf : (⟨S_, .f32⟩ : BufTy).Contents (Elt F) → (⟨S_, .f32⟩ : BufTy).Contents (Elt F) → (⟨S_, .f32⟩ : BufTy).Contents (Elt F)),
    StableHlo.binary main_v23 main_v27 main_v28 (addf : (⟨S_, .f32⟩ : BufTy).Contents (Elt F) → (⟨S_, .f32⟩ : BufTy).Contents (Elt F) → (⟨S_, .f32⟩ : BufTy).Contents (Elt F)),
    StableHlo.binary main_v18 main_v0 main_v29 (subf : (⟨S8x32x32x256, .f32⟩ : BufTy).Contents (Elt F) → (⟨S8x32x32x256, .f32⟩ : BufTy).Contents (Elt F) → (⟨S8x32x32x256, .f32⟩ : BufTy).Contents (Elt F)),
    StableHlo.binary main_v0 main_v29 main_v30 (addf : (⟨S8x32x32x256, .f32⟩ : BufTy).Contents (Elt F) → (⟨S8x32x32x256, .f32⟩ : BufTy).Contents (Elt F) → (⟨S8x32x32x256, .f32⟩ : BufTy).Contents (Elt F)),
    StableHlo.unary main_v30 main_v31 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)) ]

theorem opsTail_sub : (opsTail : List (HloOp τ sig (Elt F))).Forall fun op => op.bufs ⊆ tcRefs τ sig :=
  ⟨reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., unary_bufs_sub ..⟩

/-- @main's operations, in order. -/
abbrev ops : List (HloOp τ sig (Elt F)) := opsDist ++ (opsArg ++ (opsTake ++ opsTail))

/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_append.1 h with h | h
  · exact List.forall_iff_forall_mem.1 opsDist_sub op h
  rcases List.mem_append.1 h with h | h
  · exact List.forall_iff_forall_mem.1 opsArg_sub op h
  rcases List.mem_append.1 h with h | h
  · exact List.forall_iff_forall_mem.1 opsTake_sub op h
  · exact List.forall_iff_forall_mem.1 opsTail_sub op h

/-- A line cut in two: the second part runs from what the first leaves. -/
theorem after_cut (a b : List (HloOp τ sig (Elt F))) (V : Valuation τ sig (Elt F)) : after (a ++ b) V = after b (after a V) := by
  induction a generalizing V with
  | nil => rfl
  | cons op a ih => exact ih (op.result V)

/-! ## Each piece read at the buffers later pieces use -/

variable (V : Valuation τ sig (Elt F))

theorem dist_v15 : after opsDist V (main_v15 : DevRef τ sig) = dist (V (main_arg0 : DevRef τ sig)) (V (main_arg1 : DevRef τ sig)) := by
  after_results
  rfl
theorem dist_v0 : after opsDist V (main_v0 : DevRef τ sig) = nhwc (V (main_arg0 : DevRef τ sig)) := by
  after_results
  rfl
theorem dist_arg0 : after opsDist V (main_arg0 : DevRef τ sig) = V (main_arg0 : DevRef τ sig) := by after_results
theorem dist_arg1 : after opsDist V (main_arg1 : DevRef τ sig) = V (main_arg1 : DevRef τ sig) := by after_results

theorem arg_v16 : after opsArg V (main_v16 : DevRef τ sig) = argOf (V (main_v15 : DevRef τ sig)) := by
  after_results
  rfl
theorem arg_v0 : after opsArg V (main_v0 : DevRef τ sig) = V (main_v0 : DevRef τ sig) := by after_results
theorem arg_arg0 : after opsArg V (main_arg0 : DevRef τ sig) = V (main_arg0 : DevRef τ sig) := by after_results
theorem arg_arg1 : after opsArg V (main_arg1 : DevRef τ sig) = V (main_arg1 : DevRef τ sig) := by after_results

theorem take_v17 : after opsTake V (main_v17 : DevRef τ sig) = takeOf (V (main_arg1 : DevRef τ sig)) (V (main_v16 : DevRef τ sig)) := by
  after_results
  rfl
theorem take_v16 : after opsTake V (main_v16 : DevRef τ sig) = V (main_v16 : DevRef τ sig) := by after_results
theorem take_v0 : after opsTake V (main_v0 : DevRef τ sig) = V (main_v0 : DevRef τ sig) := by after_results
theorem take_arg0 : after opsTake V (main_arg0 : DevRef τ sig) = V (main_arg0 : DevRef τ sig) := by after_results
theorem take_arg1 : after opsTake V (main_arg1 : DevRef τ sig) = V (main_arg1 : DevRef τ sig) := by after_results

theorem tail_v28 : after opsTail V (main_v28 : DevRef τ sig) = lossOf (rowsBack (V (main_v17 : DevRef τ sig))) (V (main_v0 : DevRef τ sig)) := by
  after_results
  rfl
theorem tail_v31 : after opsTail V (main_v31 : DevRef τ sig) = zqOf (rowsBack (V (main_v17 : DevRef τ sig))) (V (main_v0 : DevRef τ sig)) := by
  after_results
  rfl
theorem tail_v16 : after opsTail V (main_v16 : DevRef τ sig) = V (main_v16 : DevRef τ sig) := by after_results
theorem tail_arg0 : after opsTail V (main_arg0 : DevRef τ sig) = V (main_arg0 : DevRef τ sig) := by after_results
theorem tail_arg1 : after opsTail V (main_arg1 : DevRef τ sig) = V (main_arg1 : DevRef τ sig) := by after_results

/-! ## The whole line -/

theorem ops_v16 : after ops V (main_v16 : DevRef τ sig) = argOf (dist (V (main_arg0 : DevRef τ sig)) (V (main_arg1 : DevRef τ sig))) := by
  rw [after_cut, after_cut, after_cut, tail_v16, take_v16, arg_v16, dist_v15]
theorem ops_v28 : after ops V (main_v28 : DevRef τ sig)
    = lossOf (rowsBack (takeOf (V (main_arg1 : DevRef τ sig)) (argOf (dist (V (main_arg0 : DevRef τ sig)) (V (main_arg1 : DevRef τ sig))))))
        (nhwc (V (main_arg0 : DevRef τ sig))) := by
  rw [after_cut, after_cut, after_cut, tail_v28, take_v17, take_v0, arg_v16, arg_arg1, arg_v0, dist_v15, dist_arg1, dist_v0]
theorem ops_v31 : after ops V (main_v31 : DevRef τ sig)
    = zqOf (rowsBack (takeOf (V (main_arg1 : DevRef τ sig)) (argOf (dist (V (main_arg0 : DevRef τ sig)) (V (main_arg1 : DevRef τ sig))))))
        (nhwc (V (main_arg0 : DevRef τ sig))) := by
  rw [after_cut, after_cut, after_cut, tail_v31, take_v17, take_v0, arg_v16, arg_arg1, arg_v0, dist_v15, dist_arg1, dist_v0]
theorem ops_arg0 : after ops V (main_arg0 : DevRef τ sig) = V (main_arg0 : DevRef τ sig) := by
  rw [after_cut, after_cut, after_cut, tail_arg0, take_arg0, arg_arg0, dist_arg0]
theorem ops_arg1 : after ops V (main_arg1 : DevRef τ sig) = V (main_arg1 : DevRef τ sig) := by
  rw [after_cut, after_cut, after_cut, tail_arg1, take_arg1, arg_arg1, dist_arg1]

/-- The run: the three results are the composed functions of the arguments, and the arguments are unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = zqOf (rowsBack (takeOf (m ((c.tc : Thread nD τ).loc main_arg1))
              (argOf (dist (m ((c.tc : Thread nD τ).loc main_arg0)) (m ((c.tc : Thread nD τ).loc main_arg1))))))
              (nhwc (m ((c.tc : Thread nD τ).loc main_arg0)))
      ∧ r.2.mem ((c.tc : Thread nD τ).loc main_v28)
          = lossOf (rowsBack (takeOf (m ((c.tc : Thread nD τ).loc main_arg1))
              (argOf (dist (m ((c.tc : Thread nD τ).loc main_arg0)) (m ((c.tc : Thread nD τ).loc main_arg1))))))
              (nhwc (m ((c.tc : Thread nD τ).loc main_arg0)))
      ∧ r.2.mem ((c.tc : Thread nD τ).loc main_v16)
          = argOf (dist (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (ops_v31 _), (h c main_v28).trans (ops_v28 _), (h c main_v16).trans (ops_v16 _),
      (h c main_arg0).trans (ops_arg0 _), (h c main_arg1).trans (ops_arg1 _)⟩)
    (run_seq scopedRefs_eq scopedSems_eq defs main (fun _ => ops) main_eq (fun _ => ops_sub) m ρ)

/-- The reference's frame: the arguments unchanged, and no semaphore to be left up. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems (by decide) r.2⟩) (run_main m ρ)

end Cert.Proof.RefRun

end
-- ==== Proof.KernelBlock.lean ====
/-
  What one grid point leaves in the three output blocks, as the printed payloads of the four input blocks: the looked-up
  columns, the indices, and the running sum of the minima (started from zero at the first point).
-/
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

namespace Cert.Proof.KBlock

open Cert.KernelIdeal Cert.KernelIdeal.Gen
open Idealize.ShloMosaic Idealize.ShloMosaic.TcCoe Idealize.SL.Sem
open Idealize.ShloMosaic.Pipeline (Dat)

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The looked-up columns of one image: the codebook times the one-hot matrix of the indices. -/
def cols (x0 : Vec F S1x256x1024 .f32) (x1 : Vec F S1024x256 .f32) (x2 : Vec F S1x1x1024 .f32) (x3 : Vec F S1024x1 .f32) :
    Vec F S1x256x1024 .f32 :=
  k0_pay2 (iota .tc S1024x1024 32 [0] iota_S1024x1024_d0_w32) (k0_pay5 x0 x1 x3 x2) x1

/-- One image's step of the running sum. -/
def step (x0 : Vec F S1x256x1024 .f32) (x1 : Vec F S1024x256 .f32) (x2 : Vec F S1x1x1024 .f32) (x3 : Vec F S1024x1 .f32)
    (acc : Vec F S1x1 .f32) : Vec F S1x1 .f32 :=
  k0_pay1 (k0_pay8 acc) (k0_pay9 x0 x1 x3 x2)

section Cases

variable (c : Dev nD) (i : grid0.Coords) (a1 : Memref sig .tc .vmem S1x256x1024 .f32) (h1 : a1.IsWhole)
  (a2 : Memref sig .tc .vmem S1024x256 .f32) (h2 : a2.IsWhole) (a3 : Memref sig .tc .vmem S1x1x1024 .f32) (h3 : a3.IsWhole)
  (a4 : Memref sig .tc .vmem S1024x1 .f32) (h4 : a4.IsWhole) (a5 : Memref sig .tc .vmem S1x256x1024 .f32) (h5 : a5.IsWhole)
  (a6 : Memref sig .tc .vmem S1x1x1024 .i32) (h6 : a6.IsWhole) (a7 : Memref sig .tc .vmem S1x1 .f32) (h7 : a7.IsWhole)
  (x0 : Vec F S1x256x1024 .f32) (x1 : Vec F S1024x256 .f32) (x2 : Vec F S1x1x1024 .f32) (x3 : Vec F S1024x1 .f32)
  (xo : Vec F S1x1 .f32)

/-- Later points: the looked-up columns. -/
theorem B4 (hc : ¬cond0_0 i) : out0_B_4 c i a1 h1 a2 h2 a3 h3 a4 h4 a5 h5 a6 h6 a7 h7 hc x0 x1 x2 x3 xo = cols x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero z3]
  unfold cols
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2]

/-- Later points: the indices. -/
theorem B5 (hc : ¬cond0_0 i) : out0_B_5 c i a1 h1 a2 h2 a3 h3 a4 h4 a5 h5 a6 h6 a7 h7 hc x0 x1 x2 x3 xo = k0_pay6 x0 x1 x3 x2 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero z3]
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2]

/-- Later points: one step on what the point before left. -/
theorem B6 (hc : ¬cond0_0 i) : out0_B_6 c i a1 h1 a2 h2 a3 h3 a4 h4 a5 h5 a6 h6 a7 h7 hc x0 x1 x2 x3 xo = step x0 x1 x2 x3 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero z2]
  unfold step
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2, View.ld_unit_zero (S := S1x1) z2]

/-- The first point: the looked-up columns. -/
theorem A4 (hc : cond0_0 i) : out0_A_4 c i a1 h1 a2 h2 a3 h3 a4 h4 a5 h5 a6 h6 a7 h7 hc x0 x1 x2 x3 = cols x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero z3]
  unfold cols
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2]

/-- The first point: the indices. -/
theorem A5 (hc : cond0_0 i) : out0_A_5 c i a1 h1 a2 h2 a3 h3 a4 h4 a5 h5 a6 h6 a7 h7 hc x0 x1 x2 x3 = k0_pay6 x0 x1 x3 x2 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero z3]
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2]

/-- The first point: one step on zero. -/
theorem A6 (hc : cond0_0 i) : out0_A_6 c i a1 h1 a2 h2 a3 h3 a4 h4 a5 h5 a6 h6 a7 h7 hc x0 x1 x2 x3 = step x0 x1 x2 x3 k0_pay7 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1) z2, View.readCov_unit_zero (S := S1x1) _ z2]
  unfold step
  simp only [View.readAt_eq_ld, h1.read_unread, h2.read_unread, h3.read_unread, h4.read_unread, h7.read_unread,
    View.ld_unit_zero (S := S1x256x1024) z3, View.ld_unit_zero (S := S1024x256) z2, View.ld_unit_zero (S := S1x1x1024) z3,
    View.ld_unit_zero (S := S1024x1) z2, View.ld_unit_zero (S := S1x1) z2]

end Cases

/-! ## The outputs' contents after each point -/

variable (m : (ℓ : Loc nD τ sig) → Buf (Elt F) ℓ)

/-- The running sum after point `n`. -/
def run (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) k0_pay7
  | n + 1, h => step (iblk m c 0 ⟨n + 1, h⟩) (iblk m c 1 ⟨n + 1, h⟩) (iblk m c 2 ⟨n + 1, h⟩) (iblk m c 3 ⟨n + 1, h⟩)
      (run c n (Nat.lt_of_succ_lt h))

theorem later (n : ℕ) (h : n + 1 < cfg0.N) : ¬(⟨n + 1, h⟩ : Fin cfg0.N).val % 8 = 0 := by
  have hN : cfg0.N = 8 := N_0
  dsimp only
  omega

/-- After point `n` the sum's block holds the running sum. -/
theorem outs_sum (c : Dev nD) : ∀ (n : ℕ) (h : n < cfg0.N), (outsAt0 m c n h).2.2 = run m c n h
  | 0, h => by
    rw [show outsAt0 m c 0 h = _ from outsAt0_A m c ⟨0, h⟩ rfl, A6]
    rfl
  | n + 1, h => by
    rw [show outsAt0 m c (n + 1) h = _ from outsAt0_B m c ⟨n + 1, h⟩ (later n h), B6]
    show step _ _ _ _ (outsAt0 m c n _).2.2 = step _ _ _ _ (run m c n _)
    rw [outs_sum c n]

/-- After a point the first output's block holds that image's looked-up columns. -/
theorem outs_cols (c : Dev nD) (t : Fin cfg0.N) :
    (outsAt0 m c t.val t.isLt).1 = cols (iblk m c 0 t) (iblk m c 1 t) (iblk m c 2 t) (iblk m c 3 t) := by
  by_cases h : t.val % 8 = 0
  · rw [outsAt0_A m c t h, A4]
  · rw [outsAt0_B m c t h, B4]

/-- After a point the second output's block holds that image's indices. -/
theorem outs_idx (c : Dev nD) (t : Fin cfg0.N) :
    (outsAt0 m c t.val t.isLt).2.1 = k0_pay6 (iblk m c 0 t) (iblk m c 1 t) (iblk m c 3 t) (iblk m c 2 t) := by
  by_cases h : t.val % 8 = 0
  · rw [outsAt0_A m c t h, A5]
  · rw [outsAt0_B m c t h, B5]

end Cert.Proof.KBlock

end
-- ==== Proof.KernelArrays.lean ====
/-
  The three result arrays after the region, and the four blocks a grid point reads, as functions of the arrays the host
  operations before the region leave.
-/
module

public import proofs.«01_k».proof.Proof.KernelBlock
public import Idealize.ShloMosaic.Lib.Pointwise

@[expose] public section

set_option maxRecDepth 16384

noncomputable section

namespace Cert.Proof.KArrays

open Cert.KernelIdeal Cert.KernelIdeal.Gen
open Idealize.ShloMosaic Idealize.ShloMosaic.TcCoe Idealize.SL.Sem
open Idealize.ShloMosaic.Pipeline (Dat)
open Cert.Proof.KBlock

variable {F : FTy → Type} [FloatOps F]
variable (m : (ℓ : Loc nD τ sig) → Buf (Elt F) ℓ)

/-- A grid point by its number. -/
abbrev pt (n : ℕ) (h : n < 8) : Fin cfg0.N := ⟨n, by rw [show cfg0.N = 8 from N_0]; exact h⟩

/-- Where each block lies: image `t`, or the whole array. -/
theorem idx0 (t : Fin cfg0.N) : win0_0.index t 0 = t.val ∧ win0_0.index t 1 = 0 ∧ win0_0.index t 2 = 0 := by
  rcases fin_N0 t with rfl | rfl | rfl | rfl | rfl | rfl | rfl | rfl <;> decide
theorem idx1 (t : Fin cfg0.N) : win0_1.index t 0 = 0 ∧ win0_1.index t 1 = 0 := by
  rcases fin_N0 t with rfl | rfl | rfl | rfl | rfl | rfl | rfl | rfl <;> decide
theorem idx2 (t : Fin cfg0.N) : win0_2.index t 0 = t.val ∧ win0_2.index t 1 = 0 ∧ win0_2.index t 2 = 0 := by
  rcases fin_N0 t with rfl | rfl | rfl | rfl | rfl | rfl | rfl | rfl <;> decide
theorem idx3 (t : Fin cfg0.N) : win0_3.index t 0 = 0 ∧ win0_3.index t 1 = 0 := by
  rcases fin_N0 t with rfl | rfl | rfl | rfl | rfl | rfl | rfl | rfl <;> decide
theorem idx4 (t : Fin cfg0.N) : win0_4.index t 0 = t.val ∧ win0_4.index t 1 = 0 ∧ win0_4.index t 2 = 0 := by
  rcases fin_N0 t with rfl | rfl | rfl | rfl | rfl | rfl | rfl | rfl <;> decide
theorem idx5 (t : Fin cfg0.N) : win0_5.index t 0 = t.val ∧ win0_5.index t 1 = 0 ∧ win0_5.index t 2 = 0 := by
  rcases fin_N0 t with rfl | rfl | rfl | rfl | rfl | rfl | rfl | rfl <;> decide

/-! ## The blocks read -/

/-- The image's block. -/
theorem blk0 (c : Dev nD) (t : Fin cfg0.N) (p : Fin 1) (k : Fin 256) (j : Fin 1024) :
    (iblk m c 0 t : Vec F S1x256x1024 .f32) (ix3 p k j)
      = (V m c main_call0_v0 : Vec F S8x256x1024 .f32) (ix3 ⟨t.val, t.isLt⟩ k j) := by
  unfold iblk
  rw [View.read_apply]
  show (V m c main_call0_v0 : Vec F S8x256x1024 .f32) _ = _
  congr 1
  funext a
  apply Fin.ext
  have hp := p.isLt
  match a with
  | ⟨0, _⟩ => show win0_0.index t 0 * 1 + 1 * p.val = t.val; rw [(idx0 t).1]; omega
  | ⟨1, _⟩ => show win0_0.index t 1 * 256 + 1 * k.val = k.val; rw [(idx0 t).2.1]; omega
  | ⟨2, _⟩ => show win0_0.index t 2 * 1024 + 1 * j.val = j.val; rw [(idx0 t).2.2]; omega

/-- The whole codebook. -/
theorem blk1 (c : Dev nD) (t : Fin cfg0.N) (n : Fin 1024) (k : Fin 256) :
    (iblk m c 1 t : Vec F S1024x256 .f32) (ix2 n k) = (V m c main_arg1 : Vec F S1024x256 .f32) (ix2 n k) := by
  unfold iblk
  rw [View.read_apply]
  show (V m c main_arg1 : Vec F S1024x256 .f32) _ = _
  congr 1
  funext a
  apply Fin.ext
  match a with
  | ⟨0, _⟩ => show win0_1.index t 0 * 1024 + 1 * n.val = n.val; rw [(idx1 t).1]; omega
  | ⟨1, _⟩ => show win0_1.index t 1 * 256 + 1 * k.val = k.val; rw [(idx1 t).2]; omega

/-- The image's squared norms. -/
theorem blk2 (c : Dev nD) (t : Fin cfg0.N) (p q : Fin 1) (j : Fin 1024) :
    (iblk m c 2 t : Vec F S1x1x1024 .f32) (ix3 p q j)
      = (V m c main_call0_v5 : Vec F S8x1x1024 .f32) (ix3 ⟨t.val, t.isLt⟩ q j) := by
  unfold iblk
  rw [View.read_apply]
  show (V m c main_call0_v5 : Vec F S8x1x1024 .f32) _ = _
  congr 1
  funext a
  apply Fin.ext
  have hp := p.isLt
  match a with
  | ⟨0, _⟩ => show win0_2.index t 0 * 1 + 1 * p.val = t.val; rw [(idx2 t).1]; omega
  | ⟨1, _⟩ => show win0_2.index t 1 * 1 + 1 * q.val = q.val; rw [(idx2 t).2.1]; omega
  | ⟨2, _⟩ => show win0_2.index t 2 * 1024 + 1 * j.val = j.val; rw [(idx2 t).2.2]; omega

/-- The codebook's squared norms. -/
theorem blk3 (c : Dev nD) (t : Fin cfg0.N) (n : Fin 1024) (p : Fin 1) :
    (iblk m c 3 t : Vec F S1024x1 .f32) (ix2 n p) = (V m c main_call0_v8 : Vec F S1024x1 .f32) (ix2 n p) := by
  unfold iblk
  rw [View.read_apply]
  show (V m c main_call0_v8 : Vec F S1024x1 .f32) _ = _
  congr 1
  funext a
  apply Fin.ext
  match a with
  | ⟨0, _⟩ => show win0_3.index t 0 * 1024 + 1 * n.val = n.val; rw [(idx3 t).1]; omega
  | ⟨1, _⟩ => show win0_3.index t 1 * 1 + 1 * p.val = p.val; rw [(idx3 t).2]; omega

/-! ## The result arrays -/

/-- The looked-up columns of image `t`. -/
def colsAt (c : Dev nD) (t : Fin cfg0.N) : Vec F S1x256x1024 .f32 :=
  cols (iblk m c 0 t) (iblk m c 1 t) (iblk m c 2 t) (iblk m c 3 t)

/-- The indices of image `t`. -/
def idxAt (c : Dev nD) (t : Fin cfg0.N) : Vec F S1x1x1024 .i32 :=
  k0_pay6 (F := F) (iblk m c 0 t) (iblk m c 1 t) (iblk m c 3 t) (iblk m c 2 t)

/-- The first result array: image `b`'s looked-up columns at `b`. -/
def arr4 (c : Dev nD) : Vec F S8x256x1024 .f32 := fun i => colsAt m c (pt (i 0).val (i 0).isLt) (ix3 0 (i 1) (i 2))

/-- The second result array: image `b`'s indices at `b`. -/
def arr5 (c : Dev nD) : Vec F S8x1x1024 .i32 := fun i => idxAt m c (pt (i 0).val (i 0).isLt) (ix3 0 0 (i 2))

/-- The third result array: the running sum after the last image. -/
def arr6 (c : Dev nD) : Vec F S1x1 .f32 := run m c 7 (pt 7 (by decide)).isLt

theorem colsAt_congr (c : Dev nD) (t t' : Fin cfg0.N) (j j' : S1x256x1024.Idx) (ht : t.val = t'.val)
    (hj : ∀ a, (j a).val = (j' a).val) : colsAt m c t j = colsAt m c t' j' := by
  obtain rfl : t = t' := Fin.ext ht
  obtain rfl : j = j' := funext fun a => Fin.ext (hj a)
  rfl

theorem idxAt_congr (c : Dev nD) (t t' : Fin cfg0.N) (j j' : S1x1x1024.Idx) (ht : t.val = t'.val)
    (hj : ∀ a, (j a).val = (j' a).val) : idxAt m c t j = idxAt m c t' j' := by
  obtain rfl : t = t' := Fin.ext ht
  obtain rfl : j = j' := funext fun a => Fin.ext (hj a)
  rfl

theorem flushed4 (c : Dev nD) (t : Fin cfg0.N) :
    (dats m 0 c).flushed 4 t = ((cfg0.win 4).blk t).view.read (Elt F) (arr4 m c) := by
  show (cfg0.win 4).cut (grid0.coords t) ((dats m 0 c).after 4 t) = _
  rw [after0_4, show (outsAt0 m c t.val t.isLt).1 = colsAt m c t from outs_cols m c t]
  funext j
  rw [View.read_apply]
  show colsAt m c t j = arr4 m c _
  unfold arr4
  have h0 : (j 0).val < 1 := (j 0).isLt
  refine colsAt_congr m c _ _ _ _ ?_ fun a => ?_
  · show t.val = win0_4.index t 0 * 1 + 1 * (j 0).val; rw [(idx4 t).1]; omega
  · match a with
    | ⟨0, _⟩ => show (j 0).val = 0; omega
    | ⟨1, _⟩ => show (j 1).val = win0_4.index t 1 * 256 + 1 * (j 1).val; rw [(idx4 t).2.1]; omega
    | ⟨2, _⟩ => show (j 2).val = win0_4.index t 2 * 1024 + 1 * (j 2).val; rw [(idx4 t).2.2]; omega

theorem flushed5 (c : Dev nD) (t : Fin cfg0.N) :
    (dats m 0 c).flushed 5 t = ((cfg0.win 5).blk t).view.read (Elt F) (arr5 m c) := by
  show (cfg0.win 5).cut (grid0.coords t) ((dats m 0 c).after 5 t) = _
  rw [after0_5, show (outsAt0 m c t.val t.isLt).2.1 = idxAt m c t from outs_idx m c t]
  funext j
  rw [View.read_apply]
  refine Eq.trans ?_ (cast_eq _ _).symm
  refine Eq.trans (b := idxAt m c t j) rfl ?_
  unfold arr5
  have h0 : (j 0).val < 1 := (j 0).isLt
  have h1 : (j 1).val < 1 := (j 1).isLt
  refine idxAt_congr m c _ _ _ _ ?_ fun a => ?_
  · show t.val = win0_5.index t 0 * 1 + 1 * (j 0).val; rw [(idx5 t).1]; omega
  · match a with
    | ⟨0, _⟩ => show (j 0).val = 0; omega
    | ⟨1, _⟩ => show (j 1).val = 0; omega
    | ⟨2, _⟩ => show (j 2).val = win0_5.index t 2 * 1024 + 1 * (j 2).val; rw [(idx5 t).2.2]; omega

theorem flushed6 (c : Dev nD) (t : Fin cfg0.N) (hf : (cfg0.win 6).flush t = true) :
    (dats m 0 c).flushed 6 t = ((cfg0.win 6).blk t).view.read (Elt F) (arr6 m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6, outs_sum]
  have hz' : (fun a => win0_6.index t0_7 a * main_call0_v9_2.ty.shape.size a) = fun _ => 0 := funext fun a => by fin_cases a <;> decide
  exact (Memref.read_access_unit_zero (Elt F) main_call0_v9_2 hz' (fun a => by rw [congrFun hz' a]; simp) (arr6 m c)).symm

/-- The first result array ends holding every image's looked-up columns. -/
theorem final4 (c : Dev nD) : (dats m 0 c).arrAt 4 cfg0.N = arr4 m c :=
  (dats m 0 c).arrAt_eq_of_cover 4 (arr4 m c) (fun t _ => flushed4 m c t) fun i =>
    ⟨pt (i 0).val (i 0).isLt, flush0_4 _, by
      show i ∈ ((View.whole main_call0_v9_0).slice (win0_4.rect (pt (i 0).val (i 0).isLt))).set
      rw [View.set_slice_whole, Rect.mem_set_unit]
      have h0 : (i 0 : Nat) < 8 := (i 0).isLt
      have h1 : (i 1 : Nat) < 256 := (i 1).isLt
      have h2 : (i 2 : Nat) < 1024 := (i 2).isLt
      obtain ⟨e0, e1, e2⟩ := idx4 (pt (i 0).val (i 0).isLt)
      intro a
      match a with
      | ⟨0, _⟩ => show win0_4.index (pt (i 0).val (i 0).isLt) 0 * 1 ≤ (i 0 : Nat) ∧ (i 0 : Nat) < win0_4.index (pt (i 0).val (i 0).isLt) 0 * 1 + 1
                  rw [e0]; dsimp only; omega
      | ⟨1, _⟩ => show win0_4.index (pt (i 0).val (i 0).isLt) 1 * 256 ≤ (i 1 : Nat) ∧ (i 1 : Nat) < win0_4.index (pt (i 0).val (i 0).isLt) 1 * 256 + 256
                  rw [e1]; omega
      | ⟨2, _⟩ => show win0_4.index (pt (i 0).val (i 0).isLt) 2 * 1024 ≤ (i 2 : Nat) ∧ (i 2 : Nat) < win0_4.index (pt (i 0).val (i 0).isLt) 2 * 1024 + 1024
                  rw [e2]; omega⟩

/-- The second result array ends holding every image's indices. -/
theorem final5 (c : Dev nD) : (dats m 0 c).arrAt 5 cfg0.N = arr5 m c :=
  (dats m 0 c).arrAt_eq_of_cover 5 (arr5 m c) (fun t _ => flushed5 m c t) fun i =>
    ⟨pt (i 0).val (i 0).isLt, flush0_5 _, by
      show i ∈ ((View.whole main_call0_v9_1).slice (win0_5.rect (pt (i 0).val (i 0).isLt))).set
      rw [View.set_slice_whole, Rect.mem_set_unit]
      have h0 : (i 0 : Nat) < 8 := (i 0).isLt
      have h1 : (i 1 : Nat) < 1 := (i 1).isLt
      have h2 : (i 2 : Nat) < 1024 := (i 2).isLt
      obtain ⟨e0, e1, e2⟩ := idx5 (pt (i 0).val (i 0).isLt)
      intro a
      match a with
      | ⟨0, _⟩ => show win0_5.index (pt (i 0).val (i 0).isLt) 0 * 1 ≤ (i 0 : Nat) ∧ (i 0 : Nat) < win0_5.index (pt (i 0).val (i 0).isLt) 0 * 1 + 1
                  rw [e0]; dsimp only; omega
      | ⟨1, _⟩ => show win0_5.index (pt (i 0).val (i 0).isLt) 1 * 1 ≤ (i 1 : Nat) ∧ (i 1 : Nat) < win0_5.index (pt (i 0).val (i 0).isLt) 1 * 1 + 1
                  rw [e1]; omega
      | ⟨2, _⟩ => show win0_5.index (pt (i 0).val (i 0).isLt) 2 * 1024 ≤ (i 2 : Nat) ∧ (i 2 : Nat) < win0_5.index (pt (i 0).val (i 0).isLt) 2 * 1024 + 1024
                  rw [e2]; omega⟩

/-- The third result array ends holding the running sum after the last image. -/
theorem final6 (c : Dev nD) : (dats m 0 c).arrAt 6 cfg0.N = arr6 m c :=
  (dats m 0 c).arrAt_eq_of_cover 6 (arr6 m c) (flushed6 m c) fun i =>
    ⟨t0_7, (flush0_6 t0_7).mpr rfl, by
      show i ∈ ((View.whole main_call0_v9_2).slice (win0_6.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1 from by decide +kernel]; omega⟩

end Cert.Proof.KArrays

end
-- ==== Proof.KernelRun.lean ====
/-
  The kernel's run: the arrays the host operations before the region leave, and the three results the host operations after
  it make of the region's arrays.
-/
module

public import proofs.«01_k».proof.Proof.KernelArrays
public import Idealize.ShloMosaic.Lib.StableHlo.Run

@[expose] public section

set_option maxRecDepth 16384

noncomputable section

namespace Cert.Proof.KRun

open Cert.KernelIdeal Cert.KernelIdeal.Gen
open Idealize.ShloMosaic Idealize.ShloMosaic.TcCoe Idealize.SL.Sem
open Idealize.ShloMosaic.Pipeline (Dat)
open Cert.Proof.KArrays

variable {F : FTy → Type} [FloatOps F]
variable (m : (ℓ : Loc nD τ sig) → Buf (Elt F) ℓ) (ρ : Dev nD → PrngReg)

/-- The two arguments, as vectors. -/
abbrev argZ (c : Dev nD) : FVec F S8x256x32x32 .f32 := m ((c.tc : Thread nD τ).loc main_arg0)
abbrev argW (c : Dev nD) : FVec F S1024x256 .f32 := m ((c.tc : Thread nD τ).loc main_arg1)

/-- The images with their two spatial axes flattened. -/
theorem V_z (c : Dev nD) : (V m c main_call0_v0 : Vec F S8x256x1024 .f32)
    = shapeCast S8x256x1024 (argZ m c) shapeCasts_S8x256x32x32_S8x256x1024 := by
  show StableHlo.after hostOps0 _ (Proc.devRef .tc main_call0_v0) = _
  after_results
  rfl

/-- The token rows. -/
def rows (z : FVec F S8x256x32x32 .f32) : FVec F S8192x256 .f32 :=
  shapeCast S8192x256 (transpose S8x32x32x256 [0, 2, 3, 1] z transposes_S8x256x32x32_S8x32x32x256_0_2_3_1) shapeCasts_S8x32x32x256_S8192x256

/-- The tokens' squared norms, image by image. -/
theorem V_zsq (c : Dev nD) : (V m c main_call0_v5 : Vec F S8x1x1024 .f32)
    = shapeCast S8x1x1024 (Host.reduceAdd (mulf (rows (argZ m c)) (rows (argZ m c))) (constant S_ .f32 0x00000000#32) reducesTo_S8192x256_S8192_d1 h_S_) shapeCasts_S8192_S8x1x1024 := by
  show StableHlo.after hostOps0 _ (Proc.devRef .tc main_call0_v5) = _
  after_results
  rfl

/-- The codebook rows' squared norms, as a column. -/
theorem V_wsq (c : Dev nD) : (V m c main_call0_v8 : Vec F S1024x1 .f32)
    = broadcastInDim S1024x1 ![0] bcast_S1024_S1024x1_0 (Host.reduceAdd (mulf (argW m c) (argW m c)) (constant S_ .f32 0x00000000#32) reducesTo_S1024x256_S1024_d1 h_S_) := by
  show StableHlo.after hostOps0 _ (Proc.devRef .tc main_call0_v8) = _
  after_results
  rfl

theorem V_w (c : Dev nD) : (V m c main_arg1 : Vec F S1024x256 .f32) = argW m c := V_main_arg1 m c

/-! ## The results -/

section Tail

variable (X : Valuation τ sig (Elt F))

theorem after_v0_0 : (StableHlo.after hostOps1 X (Proc.devRef .tc main_v0_0) : Vec F S8x256x32x32 .f32)
    = shapeCast S8x256x32x32 (X (Proc.devRef .tc main_call0_v9_0) : Vec F S8x256x1024 .f32) shapeCasts_S8x256x1024_S8x256x32x32 := by
  after_results
  rfl

theorem after_v0_2 : (StableHlo.after hostOps1 X (Proc.devRef .tc main_v0_2) : Vec F S8192 .i32)
    = shapeCast S8192 (X (Proc.devRef .tc main_call0_v9_1) : Vec F S8x1x1024 .i32) shapeCasts_S8x1x1024_S8192 := by
  after_results
  rfl

theorem after_v0_1 : (StableHlo.after hostOps1 X (Proc.devRef .tc main_v0_1) : Vec F S_ .f32)
    = mulf (shapeCast S_ (X (Proc.devRef .tc main_call0_v9_2) : Vec F S1x1 .f32) shapeCasts_S1x1_S_) (constant S_ .f32 0x35200000#32) := by
  after_results
  rfl

end Tail

theorem arr_inj : Function.Injective (Pipeline.arrRef spec0) := by decide

theorem tail0 (c : Dev nD) : (Pipeline.afterTail₀ cfgs (dats m) 0 (V0 m) [hostOps1] c main_v0_0 : Vec F S8x256x32x32 .f32)
    = shapeCast S8x256x32x32 (arr4 m c) shapeCasts_S8x256x1024_S8x256x32x32 :=
  (after_v0_0 _).trans (congrArg (shapeCast S8x256x32x32 · shapeCasts_S8x256x1024_S8x256x32x32)
    ((Pipeline.withArrays_arr spec0 arr_inj c _ _ 4).trans (final4 m c)))

theorem tail2 (c : Dev nD) : (Pipeline.afterTail₀ cfgs (dats m) 0 (V0 m) [hostOps1] c main_v0_2 : Vec F S8192 .i32)
    = shapeCast S8192 (arr5 m c) shapeCasts_S8x1x1024_S8192 :=
  (after_v0_2 _).trans (congrArg (shapeCast S8192 · shapeCasts_S8x1x1024_S8192)
    ((Pipeline.withArrays_arr spec0 arr_inj c _ _ 5).trans (final5 m c)))

theorem tail1 (c : Dev nD) : (Pipeline.afterTail₀ cfgs (dats m) 0 (V0 m) [hostOps1] c main_v0_1 : Vec F S_ .f32)
    = mulf (shapeCast S_ (arr6 m c) shapeCasts_S1x1_S_) (constant S_ .f32 0x35200000#32) :=
  (after_v0_1 _).trans (congrArg (fun x => mulf (shapeCast S_ x shapeCasts_S1x1_S_) (constant S_ .f32 0x35200000#32))
    ((Pipeline.withArrays_arr spec0 arr_inj c _ _ 6).trans (final6 m c)))

/-- The kernel's run: its three results, and the arguments unchanged. -/
theorem run : θ_run defs (onTc (τ := τ) (main (F := F))) ⟨m, fun _ => 0, ρ⟩ fun r => ∀ c : Dev nD,
      r.2.mem ((c.tc : Thread nD τ).loc main_v0_0) = shapeCast S8x256x32x32 (arr4 m c) shapeCasts_S8x256x1024_S8x256x32x32
      ∧ r.2.mem ((c.tc : Thread nD τ).loc main_v0_1)
          = mulf (shapeCast S_ (arr6 m c) shapeCasts_S1x1_S_) (constant S_ .f32 0x35200000#32)
      ∧ r.2.mem ((c.tc : Thread nD τ).loc main_v0_2) = shapeCast S8192 (arr5 m c) shapeCasts_S8x1x1024_S8192
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_v0_2 (Pipeline.mem_restRefs_of main_v0_2 (by decide) (by decide))).trans (tail2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Proof.KRun

end
-- ==== Proof.ArgMin.lean ====
/-
  The first index at which a finite family of extended reals is least, and two folds that find it: the left fold by the
  arg-min's pair step, and the signed minimum of the indices that attain the minimum.
-/
module

public import Idealize.ShloMosaic.Lib.Pointwise
public import Idealize.ShloMosaic.Lib.WordArith

@[expose] public section

noncomputable section

namespace Cert.Proof.ArgMin

open Idealize.ShloMosaic

/-- `k` is the first index at which `f` is least. -/
def IsFirst {n : ℕ} (f : Fin n → EReal) (k : Fin n) : Prop := (∀ i, f k ≤ f i) ∧ ∀ i, f i = f k → k ≤ i

theorem IsFirst.unique {n : ℕ} {f : Fin n → EReal} {k l : Fin n} (hk : IsFirst f k) (hl : IsFirst f l) : k = l :=
  le_antisymm (hk.2 l (le_antisymm (hl.1 k) (hk.1 l))) (hl.2 k (le_antisymm (hk.1 l) (hl.1 k)))

/-- The least value is the minimum of the family over `⊤`. -/
theorem IsFirst.fold_min {n : ℕ} {f : Fin n → EReal} {k : Fin n} (hk : IsFirst f k) :
    (Finset.univ : Finset (Fin n)).fold min ⊤ f = f k :=
  le_antisymm (Finset.fold_min_le _ |>.2 (Or.inr ⟨k, Finset.mem_univ k, le_rfl⟩))
    (Finset.le_fold_min _ |>.2 ⟨le_top, fun i _ => hk.1 i⟩)

/-- One step of the arg-min over pairs of a value and a word: the lesser value, and of two equal ones the lesser word. -/
def pick (a b : EReal × BitVec 32) : EReal × BitVec 32 :=
  if a.1 < b.1 then a else if a.1 = b.1 then (b.1, if a.2.slt b.2 then a.2 else b.2) else b

theorem slt_ofNat {a b : ℕ} (ha : a < 2 ^ 31) (hb : b < 2 ^ 31) : (BitVec.ofNat 32 a).slt (BitVec.ofNat 32 b) = decide (a < b) := by
  have e : ∀ c, c < 2 ^ 31 → (BitVec.ofNat 32 c).toInt = c := WordArith.toInt_ofNat_small
  rw [BitVec.slt, e a ha, e b hb]
  simp

/-- The fold by `pick` over an increasing list of indices, from an index before them all, ends at the first least. -/
theorem foldl_pick {n : ℕ} (hn : n ≤ 2 ^ 31) (f : Fin n → EReal) : ∀ (l : List (Fin n)) (a : Fin n), (∀ i ∈ l, a < i) →
    l.Pairwise (· < ·) → ∃ k, (k = a ∨ k ∈ l) ∧
      (l.map fun i => (f i, BitVec.ofNat 32 i.val)).foldl pick (f a, BitVec.ofNat 32 a.val) = (f k, BitVec.ofNat 32 k.val) ∧
      (f k ≤ f a ∧ ∀ i ∈ l, f k ≤ f i) ∧ (f a = f k → k ≤ a) ∧ ∀ i ∈ l, f i = f k → k ≤ i
  | [], a, _, _ => ⟨a, Or.inl rfl, rfl, ⟨le_rfl, fun _ h => absurd h List.not_mem_nil⟩, fun _ => le_rfl, fun _ h => absurd h List.not_mem_nil⟩
  | b :: l, a, ha, hl => by
    have hab : a < b := ha b List.mem_cons_self
    have hbl : ∀ i ∈ l, b < i := (List.pairwise_cons.1 hl).1
    have hal : ∀ i ∈ l, a < i := fun i hi => ha i (List.mem_cons_of_mem _ hi)
    have hbv : b.val < 2 ^ 31 := lt_of_lt_of_le b.isLt hn
    have hav : a.val < 2 ^ 31 := lt_of_lt_of_le a.isLt hn
    rw [List.map_cons, List.foldl_cons]
    rcases lt_trichotomy (f a) (f b) with h | h | h
    · rw [show pick (f a, BitVec.ofNat 32 a.val) (f b, BitVec.ofNat 32 b.val) = (f a, BitVec.ofNat 32 a.val) from if_pos h]
      obtain ⟨k, hm, he, ⟨h1, h2⟩, h3, h4⟩ := foldl_pick hn f l a hal (List.pairwise_cons.1 hl).2
      refine ⟨k, hm.imp id (List.mem_cons_of_mem _), he, ⟨h1, fun i hi => ?_⟩, h3, fun i hi e => ?_⟩
      · rcases List.mem_cons.1 hi with rfl | hi
        · exact h1.trans h.le
        · exact h2 i hi
      · rcases List.mem_cons.1 hi with rfl | hi
        · exact absurd (h1.trans_lt h) (by rw [e]; exact lt_irrefl _)
        · exact h4 i hi e
    · rw [show pick (f a, BitVec.ofNat 32 a.val) (f b, BitVec.ofNat 32 b.val) = (f a, BitVec.ofNat 32 a.val) from by
        unfold pick
        rw [if_neg (by show ¬f a < f b; rw [h]; exact lt_irrefl _), if_pos h, slt_ofNat hav hbv, h]
        simp [show a.val < b.val from hab]]
      obtain ⟨k, hm, he, ⟨h1, h2⟩, h3, h4⟩ := foldl_pick hn f l a hal (List.pairwise_cons.1 hl).2
      refine ⟨k, hm.imp id (List.mem_cons_of_mem _), he, ⟨h1, fun i hi => ?_⟩, h3, fun i hi e => ?_⟩
      · rcases List.mem_cons.1 hi with rfl | hi
        · exact h1.trans h.le
        · exact h2 i hi
      · rcases List.mem_cons.1 hi with rfl | hi
        · exact (h3 (h.trans e)).trans hab.le
        · exact h4 i hi e
    · rw [show pick (f a, BitVec.ofNat 32 a.val) (f b, BitVec.ofNat 32 b.val) = (f b, BitVec.ofNat 32 b.val) from by
        unfold pick
        rw [if_neg (not_lt.2 h.le), if_neg (ne_of_gt h)]]
      obtain ⟨k, hm, he, ⟨h1, h2⟩, h3, h4⟩ := foldl_pick hn f l b hbl (List.pairwise_cons.1 hl).2
      refine ⟨k, Or.inr (List.mem_cons.2 hm), he, ⟨h1.trans h.le, fun i hi => ?_⟩, fun e => ?_, fun i hi e => ?_⟩
      · rcases List.mem_cons.1 hi with rfl | hi
        · exact h1
        · exact h2 i hi
      · exact absurd (h1.trans_lt h) (by rw [e]; exact lt_irrefl _)
      · rcases List.mem_cons.1 hi with rfl | hi
        · exact h3 e
        · exact h4 i hi e

/-- The fold by `pick` over every index in order, from `⊤` with the word zero, is the first least value with its index. -/
theorem foldl_pick_all {n : ℕ} (hn : n + 1 ≤ 2 ^ 31) (f : Fin (n + 1) → EReal) : ∃ k, IsFirst f k ∧
    ((List.finRange (n + 1)).map fun i => (f i, BitVec.ofNat 32 i.val)).foldl pick (⊤, 0#32) = (f k, BitVec.ofNat 32 k.val) := by
  have hs : (List.finRange (n + 1)).Pairwise (· < ·) := List.pairwise_lt_finRange _
  rw [List.finRange_succ] at hs ⊢
  rw [List.map_cons, List.foldl_cons, show pick (⊤, 0#32) (f 0, BitVec.ofNat 32 (0 : Fin (n + 1)).val) = (f 0, BitVec.ofNat 32 (0 : Fin (n + 1)).val) from by
    unfold pick
    rw [if_neg (not_lt.2 le_top)]
    split
    · simp
    · rfl]
  obtain ⟨k, -, he, ⟨h1, h2⟩, h3, h4⟩ := foldl_pick hn f _ 0 (List.pairwise_cons.1 hs).1 (List.pairwise_cons.1 hs).2
  have hmem : ∀ i : Fin (n + 1), i = 0 ∨ i ∈ (List.finRange n).map Fin.succ := fun i =>
    Fin.cases (Or.inl rfl) (fun j => Or.inr (List.mem_map.2 ⟨j, List.mem_finRange j, rfl⟩)) i
  refine ⟨k, ⟨fun i => ?_, fun i e => ?_⟩, he⟩
  · rcases hmem i with rfl | hi
    · exact h1
    · exact h2 i hi
  · rcases hmem i with rfl | hi
    · exact h3 e
    · exact h4 i hi e

/-- The same of any family that is not empty. -/
theorem foldl_pick_pos {n : ℕ} (h0 : 0 < n) (hn : n ≤ 2 ^ 31) (f : Fin n → EReal) : ∃ k, IsFirst f k ∧
    ((List.finRange n).map fun i => (f i, BitVec.ofNat 32 i.val)).foldl pick (⊤, 0#32) = (f k, BitVec.ofNat 32 k.val) := by
  obtain ⟨m, rfl⟩ := Nat.exists_eq_succ_of_ne_zero h0.ne'
  exact foldl_pick_all hn f

/-- A family that is not empty has a first least value. -/
theorem exists_first {n : ℕ} (h0 : 0 < n) (hn : n ≤ 2 ^ 31) (f : Fin n → EReal) : ∃ k, IsFirst f k :=
  let ⟨k, h, _⟩ := foldl_pick_pos h0 hn f
  ⟨k, h⟩

theorem toInt_minsi (a b : BitVec 32) : (IntOp.minsi a b).toInt = min a.toInt b.toInt := by
  unfold IntOp.minsi
  rw [BitVec.slt]
  by_cases h : a.toInt < b.toInt
  · rw [if_pos (decide_eq_true h), min_eq_left h.le]
  · rw [if_neg (by simpa using h), min_eq_right (not_lt.1 h)]

/-- The signed minimum, from the largest word, of each attaining index's word (and of a word above all indices elsewhere)
    is the first least index's. -/
theorem fold_minsi [Std.Commutative (IntOp.minsi : BitVec 32 → BitVec 32 → BitVec 32)] [Std.Associative (IntOp.minsi : BitVec 32 → BitVec 32 → BitVec 32)]
    {n : ℕ} (hn : n < 2 ^ 31) (f : Fin n → EReal) (k : Fin n) (hk : IsFirst f k) (g : Fin n → BitVec 32)
    (hg : ∀ i, g i = if f i = f k then BitVec.ofNat 32 i.val else BitVec.ofNat 32 n) :
    (Finset.univ : Finset (Fin n)).fold IntOp.minsi 2147483647#32 g = BitVec.ofNat 32 k.val := by
  have e : ∀ c, c < 2 ^ 31 → (BitVec.ofNat 32 c).toInt = c := WordArith.toInt_ofNat_small
  have hkn := k.isLt
  apply BitVec.eq_of_toInt_eq
  rw [← Finset.fold_hom (op := IntOp.minsi) (op' := min) (m := BitVec.toInt) toInt_minsi, e k.val (by omega)]
  refine le_antisymm ((Finset.fold_min_le _).2 (Or.inr ⟨k, Finset.mem_univ k, ?_⟩)) ((Finset.le_fold_min _).2 ⟨?_, fun i _ => ?_⟩)
  · rw [hg, if_pos rfl, e k.val (by omega)]
  · rw [show (2147483647#32 : BitVec 32) = BitVec.ofNat 32 2147483647 from rfl, e _ (by omega)]; omega
  · rw [hg]
    have hi := i.isLt
    split
    next h => rw [e i.val (by omega)]; exact_mod_cast hk.2 i h
    next h => rw [e n (by omega)]; omega

end Cert.Proof.ArgMin

end
-- ==== Proof.Literals.lean ====
/-
  The float constants of the two programs as extended reals.
-/
module

public import Idealize.ShloMosaic.Lib.Pointwise

@[expose] public section

namespace Cert.Proof.Literals

open Idealize.ShloMosaic

/-- `+∞`. -/
theorem inf_f32 : Ideal.ofBits .f32 0x7F800000#32 = ⊤ := by
  simp [Ideal.ofBits, Ideal.ieee]

/-- Two. -/
theorem two_f32 : Ideal.ofBits .f32 0x40000000#32 = ((2 : ℝ) : EReal) := by
  simp [Ideal.ofBits, Ideal.ieee, -EReal.coe_mul]; norm_num

/-- A quarter. -/
theorem quarter_f32 : Ideal.ofBits .f32 0x3E800000#32 = ((1 / 4 : ℝ) : EReal) := by
  simp [Ideal.ofBits, Ideal.ieee, -EReal.coe_mul]; norm_num

/-- The number of elements of `z`, `2 ^ 21`. -/
theorem count_f32 : Ideal.ofBits .f32 0x4A000000#32 = ((2097152 : ℝ) : EReal) := by
  simp [Ideal.ofBits, Ideal.ieee, -EReal.coe_mul]; norm_num

/-- The kernel's scale, `1.25 / 2 ^ 21`. -/
theorem scale_f32 : Ideal.ofBits .f32 0x35200000#32 = ((5 / 4 / 2097152 : ℝ) : EReal) := by
  simp [Ideal.ofBits, Ideal.ieee, -EReal.coe_mul]; norm_num

end Cert.Proof.Literals

end
-- ==== Proof.KernelValue.lean ====
/-
  The kernel's payloads read at an index over the extended reals.
-/
module

public import proofs.«01_k».proof.Proof.KernelBlock
public import proofs.«01_k».proof.Proof.ArgMin
public import proofs.«01_k».proof.Proof.Literals

@[expose] public section

set_option maxRecDepth 16384

noncomputable section

namespace Cert.Proof.KValue

open Cert.KernelIdeal Cert.KernelIdeal.Gen
open Idealize.ShloMosaic Idealize.SL.Sem
open Cert.Proof.KBlock Cert.Proof.ArgMin

variable (x0 : FVec Ideal S1x256x1024 .f32) (x1 : FVec Ideal S1024x256 .f32) (x2 : FVec Ideal S1x1x1024 .f32) (x3 : FVec Ideal S1024x1 .f32)

/-- The payloads at the extended reals: the distances, the least of each column, its index. -/
def p3 : FVec Ideal S1024x1024 .f32 := k0_pay3 (F := Ideal) x0 x1 x3 x2
def p4 : FVec Ideal S1024 .f32 := k0_pay4 (F := Ideal) x0 x1 x3 x2
def p5 : IVec S1024 32 := k0_pay5 (F := Ideal) x0 x1 x3 x2

/-- The distance of token `j` of the image from codebook row `n`, as the kernel writes it. -/
def dk (n j : Fin 1024) : EReal :=
  (x3 (ix2 n 0) + x2 (ix3 0 0 j)) - ((2 : ℝ) : EReal) * ∑ k : Fin 256, x1 (ix2 n k) * x0 (ix3 0 k j)

theorem p3_apply (n j : Fin 1024) : p3 x0 x1 x2 x3 (ix2 n j) = dk x0 x1 x2 x3 n j := by
  unfold dk p3
  pointwise [k0_pay3]
  rw [Literals.two_f32]

theorem p4_apply (j : Fin 1024) : p4 x0 x1 x2 x3 (ix1 j)
    = (Finset.univ : Finset (Fin 1024)).fold min ⊤ fun n => dk x0 x1 x2 x3 n j := by
  simp only [← p3_apply]
  unfold p4 k0_pay4
  show multiReduction .minimumf [0] S1024 (p3 x0 x1 x2 x3) 0x7F800000#32 _ _ _ _ = _
  generalize p3 x0 x1 x2 x3 = D
  pointwise []
  rw [Literals.inf_f32]

theorem p5_apply (j : Fin 1024) : p5 x0 x1 x2 x3 (ix1 j)
    = (Finset.univ : Finset (Fin 1024)).fold IntOp.minsi 2147483647#32 fun n =>
        if dk x0 x1 x2 x3 n j = p4 x0 x1 x2 x3 (ix1 j) then BitVec.ofNat 32 n.val else BitVec.ofNat 32 1024 := by
  simp only [← p3_apply]
  unfold p5 k0_pay5
  rw [show k0_pay3 (F := Ideal) x0 x1 x3 x2 = p3 x0 x1 x2 x3 from rfl, show k0_pay4 (F := Ideal) x0 x1 x3 x2 = p4 x0 x1 x2 x3 from rfl]
  generalize p3 x0 x1 x2 x3 = D
  generalize p4 x0 x1 x2 x3 = M
  pointwise []

theorem p6_apply (j : Fin 1024) : (k0_pay6 (F := Ideal) x0 x1 x3 x2 : IVec S1x1x1024 32) (ix3 0 0 j) = p5 x0 x1 x2 x3 (ix1 j) := by
  unfold k0_pay6
  rw [show k0_pay5 (F := Ideal) x0 x1 x3 x2 = p5 x0 x1 x2 x3 from rfl]
  generalize p5 x0 x1 x2 x3 = D
  pointwise []

theorem sum_lanes (v : FVec Ideal S1x1024 .f32) :
    multiReduction .add [1] S1 v 0x00000000#32 reduces_S1x1024_S1 (.inl rfl) rfl (ix1 0) = ∑ j : Fin 1024, v (ix2 0 j) := by
  pointwise []

theorem only_lane (v : FVec Ideal S1 .f32) :
    extractAt ![0, 0] (shapeCast S1x1 v shapeCasts_S1_S1x1) inpos_S1x1_p0_0 = v (ix1 0) := by
  pointwise []

theorem as_row (v : FVec Ideal S1024 .f32) (j : Fin 1024) : shapeCast S1x1024 v shapeCasts_S1024_S1x1024 (ix2 0 j) = v (ix1 j) := by
  pointwise []

theorem spread (x : Ideal .f32) (i : S1x1.Idx) : broadcast S1x1 x i = x := rfl

theorem all_lanes (v : FVec Ideal S1024 .f32) (i : S1x1.Idx) :
    broadcast S1x1 (extractAt ![0, 0] (shapeCast S1x1 (multiReduction .add [1] S1 (shapeCast S1x1024 v shapeCasts_S1024_S1x1024)
      0x00000000#32 reduces_S1x1024_S1 (.inl rfl) rfl) shapeCasts_S1_S1x1) inpos_S1x1_p0_0) i = ∑ j : Fin 1024, v (ix1 j) := by
  rw [spread, only_lane, sum_lanes]
  simp only [as_row]

theorem p9_apply (i : S1x1.Idx) : (k0_pay9 (F := Ideal) x0 x1 x3 x2 : FVec Ideal S1x1 .f32) i
    = ∑ j : Fin 1024, p4 x0 x1 x2 x3 (ix1 j) := by
  unfold k0_pay9
  rw [show k0_pay4 (F := Ideal) x0 x1 x3 x2 = p4 x0 x1 x2 x3 from rfl]
  exact all_lanes _ i

/-- A test read as a float is one where it holds and zero elsewhere. -/
theorem one_hot (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · rw [if_pos h, show IntOp.cmpi .eq a b = 1#1 from by simp [IntOp.cmpi, h]]; norm_num
  · rw [if_neg h, show IntOp.cmpi .eq a b = 0#1 from by simp [IntOp.cmpi, beq_false_of_ne h]]; norm_num

/-- One step of the running sum adds the image's least distances. -/
theorem step_apply (acc : FVec Ideal S1x1 .f32) : (step (F := Ideal) x0 x1 x2 x3 acc : FVec Ideal S1x1 .f32) (ix2 0 0)
    = acc (ix2 0 0) + ∑ j : Fin 1024, p4 x0 x1 x2 x3 (ix1 j) := by
  rw [← p9_apply x0 x1 x2 x3 (ix2 0 0)]
  unfold step
  generalize (k0_pay9 (F := Ideal) x0 x1 x3 x2 : FVec Ideal S1x1 .f32) = D
  pointwise [k0_pay1, k0_pay8]

theorem zero_apply : (k0_pay7 (F := Ideal) : FVec Ideal S1x1 .f32) (ix2 0 0) = 0 := by
  pointwise [k0_pay7]

/-- The looked-up column: the codebook times a one-hot column. -/
theorem cols_apply (k : Fin 256) (j : Fin 1024) : (cols (F := Ideal) x0 x1 x2 x3 : FVec Ideal S1x256x1024 .f32) (ix3 0 k j)
    = ∑ n : Fin 1024, x1 (ix2 n k) * (if BitVec.ofNat 32 n.val = p5 x0 x1 x2 x3 (ix1 j) then 1 else 0) := by
  unfold cols
  rw [show k0_pay5 (F := Ideal) x0 x1 x3 x2 = p5 x0 x1 x2 x3 from rfl]
  generalize p5 x0 x1 x2 x3 = D
  pointwise [k0_pay2]
  exact Finset.sum_congr rfl fun n _ => by rw [one_hot]

end Cert.Proof.KValue

end
-- ==== Proof.Tokens.lean ====
/-
  The mathematics both programs compute, over the extended reals: a token's distance from each codebook row, the first row
  at the least distance, and, where every element is a real number, the least distance as a sum of squared differences.
-/
module

public import proofs.«01_k».proof.Proof.ArgMin

@[expose] public section

noncomputable section

namespace Cert.Proof.Tokens

open Idealize.ShloMosaic Cert.Proof.ArgMin

/-- The images: image, channel, row, column. -/
abbrev Images : Type := (⟨4, ![8, 256, 32, 32]⟩ : Shape).Idx → EReal
/-- The codebook: row, channel. -/
abbrev Book : Type := (⟨2, ![1024, 256]⟩ : Shape).Idx → EReal

/-- Channel `k` of token `j` of image `b`; the token at row `h` and column `w` has number `32 * h + w`. -/
def tok (z : Images) (b : Fin 8) (j : Fin 1024) (k : Fin 256) : EReal :=
  z (ix4 b k ⟨j.val / 32, by have := j.isLt; omega⟩ ⟨j.val % 32, by omega⟩)

/-- The distance of token `j` of image `b` from codebook row `n`: the squared norms added, twice the product taken off. -/
def far (z : Images) (W : Book) (b : Fin 8) (j n : Fin 1024) : EReal :=
  (∑ k : Fin 256, tok z b j k * tok z b j k + ∑ k : Fin 256, W (ix2 n k) * W (ix2 n k))
    - ((2 : ℝ) : EReal) * ∑ k : Fin 256, tok z b j k * W (ix2 n k)

/-- The first codebook row at the least distance. -/
def near (z : Images) (W : Book) (b : Fin 8) (j : Fin 1024) : Fin 1024 := (exists_first (by norm_num) (by norm_num) (far z W b j)).choose

theorem near_first (z : Images) (W : Book) (b : Fin 8) (j : Fin 1024) : IsFirst (far z W b j) (near z W b j) :=
  (exists_first (by norm_num) (by norm_num) (far z W b j)).choose_spec

/-- The sum over all tokens and channels of the squared difference from the nearest codebook row. -/
def squares (z : Images) (W : Book) : EReal :=
  ∑ b : Fin 8, ∑ j : Fin 1024, ∑ k : Fin 256, (W (ix2 (near z W b j) k) - tok z b j k) * (W (ix2 (near z W b j) k) - tok z b j k)

/-- The sum over all tokens of the least distance. -/
def leasts (z : Images) (W : Book) : EReal := ∑ b : Fin 8, ∑ j : Fin 1024, far z W b j (near z W b j)

/-- A finite sum of real numbers, in the extended reals, is the real sum. -/
theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- Of real arrays, a distance is the sum of the squared differences. -/
theorem far_coe (x : (⟨4, ![8, 256, 32, 32]⟩ : Shape).Idx → ℝ) (y : (⟨2, ![1024, 256]⟩ : Shape).Idx → ℝ) (b : Fin 8) (j n : Fin 1024) :
    far (fun i => (x i : EReal)) (fun i => (y i : EReal)) b j n
      = ∑ k : Fin 256, ((y (ix2 n k) : EReal) - tok (fun i => (x i : EReal)) b j k) * ((y (ix2 n k) : EReal) - tok (fun i => (x i : EReal)) b j k) := by
  unfold far tok
  simp only [← EReal.coe_mul, ← EReal.coe_sub, coe_sum, ← EReal.coe_add]
  congr 1
  rw [Finset.mul_sum, ← Finset.sum_add_distrib, ← Finset.sum_sub_distrib]
  exact Finset.sum_congr rfl fun k _ => by ring

/-- Of real arrays, the least distances add up to the squared differences. -/
theorem leasts_eq_squares (z : Images) (W : Book) (hz : ∀ i, ∃ r : ℝ, z i = r) (hW : ∀ i, ∃ r : ℝ, W i = r) : leasts z W = squares z W := by
  choose x hx using hz
  choose y hy using hW
  obtain rfl : z = fun i => (x i : EReal) := funext hx
  obtain rfl : W = fun i => (y i : EReal) := funext hy
  unfold leasts squares
  exact Finset.sum_congr rfl fun b _ => Finset.sum_congr rfl fun j _ => far_coe x y b j _

/-- Of real arrays, the sum of squared differences is a real number. -/
theorem squares_real (z : Images) (W : Book) (hz : ∀ i, ∃ r : ℝ, z i = r) (hW : ∀ i, ∃ r : ℝ, W i = r) : ∃ r : ℝ, squares z W = r := by
  choose x hx using hz
  choose y hy using hW
  obtain rfl : z = fun i => (x i : EReal) := funext hx
  obtain rfl : W = fun i => (y i : EReal) := funext hy
  unfold squares tok
  simp only [← EReal.coe_mul, ← EReal.coe_sub, coe_sum]
  exact ⟨_, rfl⟩

/-- An element's image and the straight-through sum of it and a difference from it. -/
theorem add_sub_self (p w : EReal) (hp : ∃ r : ℝ, p = r) : p + (w - p) = w := by
  obtain ⟨r, rfl⟩ := hp
  induction w using EReal.rec with
  | bot => simp
  | top => simp
  | coe s => rw [← EReal.coe_sub, ← EReal.coe_add, add_sub_cancel]

/-- A value below `⊤` in absolute value is a real number. -/
theorem real_of_abs_lt (x : EReal) (h : max x (-x) < ⊤) : ∃ r : ℝ, x = r := by
  induction x using EReal.rec with
  | bot => simp at h
  | top => simp at h
  | coe r => exact ⟨r, rfl⟩

end Cert.Proof.Tokens

end
-- ==== Proof.KernelResult.lean ====
/-
  The kernel's three results over the extended reals, in the terms of Tokens.lean.
-/
module

public import proofs.«01_k».proof.Proof.KernelRun
public import proofs.«01_k».proof.Proof.KernelValue
public import proofs.«01_k».proof.Proof.Tokens

@[expose] public section

set_option maxRecDepth 16384

noncomputable section

namespace Cert.Proof.KResult

open Cert.KernelIdeal Cert.KernelIdeal.Gen
open Idealize.ShloMosaic Idealize.ShloMosaic.TcCoe Idealize.SL.Sem
open Cert.Proof.KArrays Cert.Proof.KBlock Cert.Proof.KRun Cert.Proof.KValue Cert.Proof.Tokens

/-! ## What the host operations before the region leave -/

section Host

variable (z : FVec Ideal S8x256x32x32 .f32) (W : FVec Ideal S1024x256 .f32)

theorem flat_apply (b : Fin 8) (k : Fin 256) (j : Fin 1024) :
    shapeCast S8x256x1024 z shapeCasts_S8x256x32x32_S8x256x1024 (ix3 b k j) = tok z b j k := by
  unfold tok
  pointwise []

theorem rows_apply (b : Fin 8) (j : Fin 1024) (k : Fin 256) :
    rows z (ix2 ⟨b.val * 1024 + j.val, by have := b.isLt; have := j.isLt; omega⟩ k) = tok z b j k := by
  unfold tok
  pointwise [rows]
  have hb := b.isLt
  have hj := j.isLt
  congr 2 <;> exact Fin.ext (by simp only []; omega)

theorem zsq_apply (b : Fin 8) (j : Fin 1024) :
    (shapeCast S8x1x1024 (Host.reduceAdd (mulf (rows z) (rows z)) (constant S_ .f32 0x00000000#32) reducesTo_S8192x256_S8192_d1 h_S_)
      shapeCasts_S8192_S8x1x1024 (ix3 b 0 j) : EReal) = ∑ k : Fin 256, tok z b j k * tok z b j k := by
  simp only [← rows_apply]
  generalize rows z = r
  pointwise []

theorem wsq_apply (n : Fin 1024) :
    (broadcastInDim S1024x1 ![0] bcast_S1024_S1024x1_0 (Host.reduceAdd (mulf W W) (constant S_ .f32 0x00000000#32) reducesTo_S1024x256_S1024_d1 h_S_)
      (ix2 n 0) : EReal) = ∑ k : Fin 256, W (ix2 n k) * W (ix2 n k) := by
  pointwise []

end Host

/-! ## One image -/

variable (m : (ℓ : Loc nD τ sig) → Buf (Elt Ideal) ℓ) (c : Dev nD)

/-- The image a grid point works on. -/
abbrev im (t : Fin cfg0.N) : Fin 8 := ⟨t.val, t.isLt⟩

/-- The distances a grid point computes are those of Tokens.lean. -/
theorem dk_apply (t : Fin cfg0.N) (n j : Fin 1024) :
    dk (iblk m c 0 t) (iblk m c 1 t) (iblk m c 2 t) (iblk m c 3 t) n j = far (argZ m c) (argW m c) (im t) j n := by
  unfold dk far
  rw [blk2, blk3, V_zsq, V_wsq, zsq_apply, wsq_apply, add_comm]
  congr 2
  refine Finset.sum_congr rfl fun k _ => ?_
  rw [blk0, blk1, V_z, V_w, flat_apply, mul_comm]

/-- The least distance of each token. -/
theorem least_apply (t : Fin cfg0.N) (j : Fin 1024) : p4 (iblk m c 0 t) (iblk m c 1 t) (iblk m c 2 t) (iblk m c 3 t) (ix1 j)
    = far (argZ m c) (argW m c) (im t) j (near (argZ m c) (argW m c) (im t) j) := by
  rw [p4_apply]
  simp only [dk_apply]
  exact (near_first _ _ _ _).fold_min

/-- The index of each token. -/
theorem near_apply (t : Fin cfg0.N) (j : Fin 1024) : p5 (iblk m c 0 t) (iblk m c 1 t) (iblk m c 2 t) (iblk m c 3 t) (ix1 j)
    = BitVec.ofNat 32 (near (argZ m c) (argW m c) (im t) j).val := by
  rw [p5_apply, least_apply]
  simp only [dk_apply]
  exact ArgMin.fold_minsi (by norm_num) _ _ (near_first _ _ _ _) _ fun _ => rfl

/-- A sum weighted by one at a single index and by zero elsewhere is the value there. -/
theorem pick_sum (f : Fin 1024 → EReal) (l : Fin 1024) :
    ∑ n : Fin 1024, f n * (if BitVec.ofNat 32 n.val = BitVec.ofNat 32 l.val then 1 else 0) = f l := by
  rw [Finset.sum_eq_single l]
  · rw [if_pos rfl, mul_one]
  · intro n _ hn
    rw [if_neg, mul_zero]
    intro e
    have := congrArg BitVec.toNat e
    rw [BitVec.toNat_ofNat, BitVec.toNat_ofNat] at this
    have h1 := n.isLt
    have h2 := l.isLt
    exact hn (Fin.ext (by omega))
  · exact fun h => absurd (Finset.mem_univ l) h

/-- The looked-up columns are the nearest rows. -/
theorem colsAt_apply (t : Fin cfg0.N) (k : Fin 256) (j : Fin 1024) :
    (colsAt m c t (ix3 0 k j) : EReal) = argW m c (ix2 (near (argZ m c) (argW m c) (im t) j) k) := by
  unfold colsAt
  rw [cols_apply]
  simp only [near_apply, blk1, V_w]
  exact pick_sum (fun n => argW m c (ix2 n k)) _

theorem idxAt_apply (t : Fin cfg0.N) (j : Fin 1024) :
    KArrays.idxAt m c t (ix3 0 0 j) = BitVec.ofNat 32 (near (argZ m c) (argW m c) (im t) j).val := by
  unfold KArrays.idxAt
  rw [p6_apply, near_apply]

/-- One image's least distances, added up. -/
def part (b : Fin 8) : EReal := ∑ j : Fin 1024, far (argZ m c) (argW m c) b j (near (argZ m c) (argW m c) b j)

theorem run_zero (h : 0 < cfg0.N) : (KBlock.run m c 0 h (ix2 0 0) : EReal) = part m c (im ⟨0, h⟩) := by
  unfold KBlock.run part
  rw [step_apply, zero_apply, zero_add]
  simp only [least_apply]

theorem run_succ (n : ℕ) (h : n + 1 < cfg0.N) :
    (KBlock.run m c (n + 1) h (ix2 0 0) : EReal) = KBlock.run m c n (Nat.lt_of_succ_lt h) (ix2 0 0) + part m c (im ⟨n + 1, h⟩) := by
  rw [KBlock.run, step_apply]
  unfold part
  simp only [least_apply]

/-- The running sum after the last image is the sum of all least distances. -/
theorem arr6_apply : (arr6 m c (ix2 0 0) : EReal) = leasts (argZ m c) (argW m c) := by
  unfold arr6
  rw [run_succ, run_succ, run_succ, run_succ, run_succ, run_succ, run_succ, run_zero]
  show _ = ∑ b : Fin 8, part m c b
  rw [Fin.sum_univ_eight]
  rfl

/-! ## The results -/

/-- The token at row `h` and column `w`. -/
abbrev at2 (h w : Fin 32) : Fin 1024 := ⟨h.val * 32 + w.val, by have := h.isLt; have := w.isLt; omega⟩

/-- The first result: the nearest row of each token. -/
theorem zq_apply (b : Fin 8) (k : Fin 256) (h w : Fin 32) :
    (shapeCast S8x256x32x32 (arr4 m c : FVec Ideal S8x256x1024 .f32) shapeCasts_S8x256x1024_S8x256x32x32 (ix4 b k h w) : EReal)
      = argW m c (ix2 (near (argZ m c) (argW m c) b (at2 h w)) k) := by
  have e : ∀ (b : Fin 8) (k : Fin 256) (j : Fin 1024), ((arr4 m c : FVec Ideal S8x256x1024 .f32) (ix3 b k j) : EReal)
      = argW m c (ix2 (near (argZ m c) (argW m c) b j) k) := fun b k j => colsAt_apply m c (pt b.val b.isLt) k j
  generalize (arr4 m c : FVec Ideal S8x256x1024 .f32) = A at e ⊢
  rw [← e]
  pointwise []

/-- The index array at an image and a token. -/
theorem arr5_apply (b : Fin 8) (j : Fin 1024) : (arr5 m c : IVec S8x1x1024 32) (ix3 b 0 j)
    = BitVec.ofNat 32 (near (argZ m c) (argW m c) b j).val := by
  rw [← idxAt_apply m c (pt b.val b.isLt) j]
  unfold arr5
  exact Eq.refl _

/-- The index array read token by token. -/
theorem flat_index (A : IVec S8x1x1024 32) (t : Fin 8192) : shapeCast S8192 A shapeCasts_S8x1x1024_S8192 (ix1 t)
    = A (ix3 ⟨t.val / 1024, by have := t.isLt; omega⟩ 0 ⟨t.val % 1024, by omega⟩) := by
  pointwise []

/-- Numbers kept by image and token, read token by token. -/
theorem index_of (A : IVec S8x1x1024 32) (near : Fin 8 → Fin 1024 → Fin 1024) (hA : ∀ b j, A (ix3 b 0 j) = BitVec.ofNat 32 (near b j).val) (t : Fin 8192) :
    shapeCast S8192 A shapeCasts_S8x1x1024_S8192 (ix1 t)
      = BitVec.ofNat 32 (near ⟨t.val / 1024, by have := t.isLt; omega⟩ ⟨t.val % 1024, by omega⟩).val := by
  rw [flat_index, hA]

/-- The third result: the first nearest row's number. -/
theorem index_apply (t : Fin 8192) :
    shapeCast (α := BitVec 32) S8192 (arr5 m c) shapeCasts_S8x1x1024_S8192 (ix1 t)
      = BitVec.ofNat 32 (near (argZ m c) (argW m c) ⟨t.val / 1024, by have := t.isLt; omega⟩ ⟨t.val % 1024, by omega⟩).val := by
  have e := arr5_apply m c
  generalize near (argZ m c) (argW m c) = f at e ⊢
  exact index_of _ f e t

/-- The one number kept, scaled. -/
theorem scaled (A : FVec Ideal S1x1 .f32) :
    mulf (shapeCast S_ A shapeCasts_S1x1_S_) (constant (F := Ideal) S_ .f32 0x35200000#32) ix0 = (A (ix2 0 0) * ((5 / 4 / 2097152 : ℝ) : EReal) : EReal) := by
  pointwise []
  rw [Literals.scale_f32]

/-! ## The run -/

/-- The three results, as functions of the arguments. -/
def out0 : FVec Ideal S8x256x32x32 .f32 := shapeCast S8x256x32x32 (arr4 m c) shapeCasts_S8x256x1024_S8x256x32x32
def out1 : FVec Ideal S_ .f32 := mulf (shapeCast S_ (arr6 m c) shapeCasts_S1x1_S_) (constant S_ .f32 0x35200000#32)
def out2 : IVec S8192 32 := shapeCast (α := BitVec 32) S8192 (arr5 m c) shapeCasts_S8x1x1024_S8192

theorem out0_apply (b : Fin 8) (k : Fin 256) (h w : Fin 32) :
    (out0 m c (ix4 b k h w) : EReal) = argW m c (ix2 (near (argZ m c) (argW m c) b (at2 h w)) k) := zq_apply m c b k h w

theorem out1_apply : (out1 m c ix0 : EReal) = leasts (argZ m c) (argW m c) * ((5 / 4 / 2097152 : ℝ) : EReal) := by
  have e := arr6_apply m c
  delta out1
  generalize (arr6 m c : FVec Ideal S1x1 .f32) = A at e ⊢
  rw [← e]
  exact scaled A

theorem out2_apply (t : Fin 8192) : out2 m c (ix1 t)
    = BitVec.ofNat 32 (near (argZ m c) (argW m c) ⟨t.val / 1024, by have := t.isLt; omega⟩ ⟨t.val % 1024, by omega⟩).val := index_apply m c t

/-- The kernel's run over the extended reals. -/
theorem run_main (ρ : Dev nD → PrngReg) : θ_run defs (onTc (τ := τ) (main (F := Ideal))) ⟨m, fun _ => 0, ρ⟩ fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_v0_2) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1) := KRun.run m ρ

end Cert.Proof.KResult

end
-- ==== Proof.RefIndex.lean ====
/-
  The reference's arg-min and look-up at a token, over the extended reals.
-/
module

public import proofs.«01_k».proof.Proof.RefRun
public import proofs.«01_k».proof.Proof.ArgMin
public import proofs.«01_k».proof.Proof.Literals
public import Idealize.ShloMosaic.Lib.Routing.Ops

@[expose] public section

set_option maxRecDepth 16384

noncomputable section

namespace Cert.Proof.RefIndex

open Cert.ReferenceIdeal Cert.ReferenceIdeal.Gen
open Idealize.ShloMosaic Idealize.SL.Sem
open Cert.Proof.RefRun

/-- The positions of row `t` of a matrix, in order, are its entries from left to right. -/
theorem positions {N M : ℕ} (h : (⟨2, ![N, M]⟩ : Shape).ReducesTo [1] ⟨1, ![N]⟩) (t : Fin N) :
    ((List.finRange (⟨2, ![N, M]⟩ : Shape).numel).filter fun n => h.drop ((⟨2, ![N, M]⟩ : Shape).rowMajor.symm n) = ix1 t)
      = (List.finRange M).map fun i => (⟨2, ![N, M]⟩ : Shape).rowMajor (ix2 t i) := by
  have hlt : ∀ i k : Fin M, i < k → (⟨2, ![N, M]⟩ : Shape).rowMajor (ix2 t i) < (⟨2, ![N, M]⟩ : Shape).rowMajor (ix2 t k) := by
    intro i k hik
    rw [Fin.lt_def, rowMajor_val2 _ M rfl, rowMajor_val2 _ M rfl]
    exact Nat.add_lt_add_left hik _
  have h2 : ((List.finRange M).map fun i => (⟨2, ![N, M]⟩ : Shape).rowMajor (ix2 t i)).Pairwise (· < ·) :=
    List.pairwise_map.2 ((List.pairwise_lt_finRange M).imp fun {a b} => hlt a b)
  have h1 := (List.pairwise_lt_finRange (⟨2, ![N, M]⟩ : Shape).numel).filter
    fun n => decide (h.drop ((⟨2, ![N, M]⟩ : Shape).rowMajor.symm n) = ix1 t)
  refine List.Perm.eq_of_pairwise (fun a b _ _ hab hba => absurd hab (lt_asymm hba)) h1 h2 ?_
  refine (List.perm_ext_iff_of_nodup (h1.imp fun {_ _} => ne_of_lt) (h2.imp fun {_ _} => ne_of_lt)).2 fun n => ?_
  simp only [List.mem_filter, List.mem_finRange, true_and, decide_eq_true_eq, List.mem_map]
  rw [Shape.ReducesTo.fiber_r2_a1]
  refine exists_congr fun k => ?_
  rw [Equiv.eq_symm_apply]
  rfl

/-- The pairs an arg-min along rows folds over at row `t` are that row's, from left to right. -/
theorem fiber {α β : Type} {N M : ℕ} (x : (⟨2, ![N, M]⟩ : Shape).Idx → α) (y : (⟨2, ![N, M]⟩ : Shape).Idx → β)
    (h : (⟨2, ![N, M]⟩ : Shape).ReducesTo [1] ⟨1, ![N]⟩) (t : Fin N) :
    Host.argReduceFiber x y h (ix1 t) = (List.finRange M).map fun i => (x (ix2 t i), y (ix2 t i)) := by
  unfold Host.argReduceFiber
  rw [positions, List.map_map]
  refine List.map_congr_left fun i _ => ?_
  simp only [Function.comp_apply, Equiv.symm_apply_apply]

/-- The reference's pair step is the arg-min's. -/
theorem reducer_eq (a b : EReal × BitVec 32) : reducer_argmin_f32_i32 (F := Ideal) a b = ArgMin.pick a b := by
  obtain ⟨a1, a2⟩ := a
  obtain ⟨b1, b2⟩ := b
  unfold reducer_argmin_f32_i32 ArgMin.pick
  pointwise []
  rcases lt_trichotomy a1 b1 with h | h | h
  · simp [h, h.ne, Scalar.select, IntOp.ori, IntOp.andi]
  · subst h
    cases hs : a2.slt b2 <;> simp [Scalar.select, IntOp.ori, IntOp.andi, IntOp.cmpi, hs]
  · simp [h.not_gt, h.ne', Scalar.select, IntOp.ori, IntOp.andi]

/-- An arg-min along the rows of a matrix, its indices the column numbers, is at row `t` the first index of the least entry. -/
theorem argMin_row {N M : ℕ} (h0 : 0 < M) (hM : M ≤ 2 ^ 31) (d : FVec Ideal (⟨2, ![N, M]⟩ : Shape) .f32) (y : (⟨2, ![N, M]⟩ : Shape).Idx → BitVec 32)
    {u : Shape} (ix : FVec Ideal u .f32) (iy : u.Idx → BitVec 32) (h : (⟨2, ![N, M]⟩ : Shape).ReducesTo [1] ⟨1, ![N]⟩) (hu : 0 < u.numel)
    (f : Ideal .f32 × BitVec 32 → Ideal .f32 × BitVec 32 → Ideal .f32 × BitVec 32) (hf : ∀ a b, f a b = ArgMin.pick a b)
    (hx : ix (Shape.Idx.first hu) = (⊤ : EReal)) (hi : iy (Shape.Idx.first hu) = 0#32) (t : Fin N)
    (hy : ∀ i : Fin M, y (ix2 t i) = BitVec.ofNat 32 i.val) (k : Fin M) (hk : ArgMin.IsFirst (fun n : Fin M => (d (ix2 t n) : EReal)) k) :
    (Host.argReduce f d y ix iy h hu (ix1 t)).2 = BitVec.ofNat 32 k.val := by
  obtain ⟨l, hl, he⟩ := ArgMin.foldl_pick_pos h0 hM (fun n : Fin M => (d (ix2 t n) : EReal))
  obtain rfl : f = ArgMin.pick := funext fun a => funext fun b => hf a b
  obtain rfl := hl.unique hk
  rw [Ideal.argReduce_eq_reduce2, Host.reduce2_eq_foldl_fiber, fiber, hx, hi]
  simp only [hy]
  exact congrArg Prod.snd he

/-- The column numbers, at an entry. -/
theorem iota_apply (t : Fin 8192) (i : Fin 1024) : iotaInDim S8192x1024 32 1 (ix2 t i) = BitVec.ofNat 32 i.val := by
  pointwise []

/-- The arg-min's starting value is `⊤`. -/
theorem start_apply (i : S_.Idx) : (constant (F := Ideal) S_ .f32 0x7F800000#32 i : EReal) = ⊤ := by
  rw [← Literals.inf_f32]
  pointwise []

theorem argOf_eq (d : FVec Ideal S8192x1024 .f32) : argOf d = fun j : S8192.Idx =>
    (Host.argReduce reducer_argmin_f32_i32 d (iotaInDim S8192x1024 32 1) (constant S_ .f32 0x7F800000#32) (constantI S_ 32 0#32)
      reducesTo_S8192x1024_S8192_d1 h_S_ j).2 := by
  delta argOf
  exact Eq.refl _

/-- The reference's arg-min at token `t` is the first index of the least distance. -/
theorem argOf_apply (d : FVec Ideal S8192x1024 .f32) (t : Fin 8192) (k : Fin 1024)
    (hk : ArgMin.IsFirst (fun n : Fin 1024 => (d (ix2 t n) : EReal)) k) : argOf d (ix1 t) = BitVec.ofNat 32 k.val :=
  (congrFun (argOf_eq d) (ix1 t)).trans
    (argMin_row (by norm_num) (by norm_num) d _ _ _ reducesTo_S8192x1024_S8192_d1 h_S_ _ reducer_eq
      (start_apply _) (by unfold constantI; rfl) t (iota_apply t) k hk)

/-- An index in range is its own wrapped index. -/
theorem wrapped_apply (i : IVec S8192 32) (t : Fin 8192) (n : Fin 1024) (h : i (ix1 t) = BitVec.ofNat 32 n.val) :
    wrapped i (ix2 t 0) = BitVec.ofNat 32 n.val := by
  pointwise [wrapped]
  rw [h]
  have hs : (BitVec.ofNat 32 n.val).slt 0#32 = false := by
    rw [BitVec.slt, WordArith.toInt_ofNat_small _ (lt_trans n.isLt (by norm_num))]
    simp
  simp [IntOp.cmpi, hs, Scalar.select]

/-- An index in range is found in range. -/
theorem inRange_apply (i : IVec S8192x1 32) (t : Fin 8192) (n : Fin 1024) (h : i (ix2 t 0) = BitVec.ofNat 32 n.val) :
    inRange i (ix1 t) = 1#1 := by
  pointwise [inRange]
  have e : (Finset.univ : Finset (Fin 1)) = {0} := rfl
  rw [e, Finset.fold_singleton, h]
  have hn := n.isLt
  have hi := WordArith.toInt_ofNat_small n.val (lt_trans n.isLt (by norm_num))
  have h1 : (0#32).sle (BitVec.ofNat 32 n.val) = true := by rw [BitVec.sle, hi]; simp
  have h2 : (BitVec.ofNat 32 n.val).sle 1023#32 = true := by
    rw [BitVec.sle, hi, show (1023#32).toInt = 1023 from rfl]; simp; omega
  simp [IntOp.cmpi, h1, h2, IntOp.andi]

/-- The look-up at an index in range reads that row of the codebook. -/
theorem takeOf_apply (W : FVec Ideal S1024x256 .f32) (i : IVec S8192 32) (t : Fin 8192) (k : Fin 256) (n : Fin 1024)
    (h : i (ix1 t) = BitVec.ofNat 32 n.val) : takeOf W i (ix2 t k) = W (ix2 n k) := by
  have hw := wrapped_apply i t n h
  unfold takeOf
  generalize wrapped i = w at hw ⊢
  have hr := inRange_apply w t n hw
  generalize inRange w = r at hr ⊢
  pointwise []
  rw [hr]
  exact Routing.gather_row gather_S1024x256_S8192x1_S8192x256_1_0_n_n_0_1_1256 rfl rfl rfl rfl rfl W w t k n hw (by norm_num)

end Cert.Proof.RefIndex

end
-- ==== Proof.RefValue.lean ====
/-
  The reference's three results over the extended reals, in the terms of Tokens.lean.
-/
module

public import proofs.«01_k».proof.Proof.RefIndex
public import proofs.«01_k».proof.Proof.Tokens

@[expose] public section

set_option maxRecDepth 16384

noncomputable section

namespace Cert.Proof.RefValue

open Cert.ReferenceIdeal Cert.ReferenceIdeal.Gen
open Idealize.ShloMosaic Idealize.SL.Sem
open Cert.Proof.RefRun Cert.Proof.Tokens

variable (z : FVec Ideal S8x256x32x32 .f32) (W : FVec Ideal S1024x256 .f32)

/-- Token `t` of all is token `t % 1024` of image `t / 1024`. -/
abbrev img (t : Fin 8192) : Fin 8 := ⟨t.val / 1024, by have := t.isLt; omega⟩
abbrev lane (t : Fin 8192) : Fin 1024 := ⟨t.val % 1024, by omega⟩

theorem rows_apply (t : Fin 8192) (k : Fin 256) : rows z (ix2 t k) = tok z (img t) (lane t) k := by
  unfold tok
  pointwise [rows, nhwc]
  congr 2 <;> exact Fin.ext (by simp only []; omega)

theorem nhwc_apply (b : Fin 8) (h w : Fin 32) (k : Fin 256) : nhwc z (ix4 b h w k) = z (ix4 b k h w) := by
  pointwise [nhwc]

/-- The distances are those of Tokens.lean. -/
theorem dist_apply (t : Fin 8192) (n : Fin 1024) : RefRun.dist z W (ix2 t n) = far z W (img t) (lane t) n := by
  unfold far
  simp only [← rows_apply]
  unfold RefRun.dist
  generalize rows z = r
  pointwise []
  rw [Literals.two_f32]

/-- The third result: the first nearest row's number. -/
theorem index_apply (t : Fin 8192) : argOf (RefRun.dist z W) (ix1 t) = BitVec.ofNat 32 (near z W (img t) (lane t)).val := by
  refine RefIndex.argOf_apply _ t _ ?_
  rw [show (fun n : Fin 1024 => (RefRun.dist z W (ix2 t n) : EReal)) = far z W (img t) (lane t) from funext fun n => dist_apply z W t n]
  exact near_first z W _ _

/-- The looked-up rows are the nearest rows. -/
theorem take_apply (t : Fin 8192) (k : Fin 256) : takeOf W (argOf (RefRun.dist z W)) (ix2 t k) = W (ix2 (near z W (img t) (lane t)) k) :=
  RefIndex.takeOf_apply W _ t k _ (index_apply z W t)

/-- The token at row `h` and column `w`. -/
abbrev at2 (h w : Fin 32) : Fin 1024 := ⟨h.val * 32 + w.val, by have := h.isLt; have := w.isLt; omega⟩

theorem back_apply (b : Fin 8) (h w : Fin 32) (k : Fin 256) :
    rowsBack (takeOf W (argOf (RefRun.dist z W))) (ix4 b h w k) = W (ix2 (near z W b (at2 h w)) k) := by
  have e := take_apply z W
  generalize takeOf W (argOf (RefRun.dist z W)) = T at e ⊢
  pointwise [rowsBack]
  rw [e]
  have hb := b.isLt
  have hh := h.isLt
  have hw := w.isLt
  congr 3 <;> exact Fin.ext (by simp only []; omega)

/-- The first result: the image's element and the nearest row's difference from it. -/
theorem zq_apply (b : Fin 8) (k : Fin 256) (h w : Fin 32) :
    zqOf (rowsBack (takeOf W (argOf (RefRun.dist z W)))) (nhwc z) (ix4 b k h w)
      = z (ix4 b k h w) + (W (ix2 (near z W b (at2 h w)) k) - z (ix4 b k h w)) := by
  rw [← back_apply z W b h w k, ← nhwc_apply z b h w k]
  generalize rowsBack (takeOf W (argOf (RefRun.dist z W))) = T
  generalize nhwc z = P
  pointwise [zqOf]

/-- A sum over rows and columns is one over the tokens they number. -/
theorem sum_pairs {A B N : ℕ} (hN : A * B = N) (f : Fin N → EReal) (hlt : ∀ (h : Fin A) (w : Fin B), h.val * B + w.val < N) :
    ∑ h : Fin A, ∑ w : Fin B, f ⟨h.val * B + w.val, hlt h w⟩ = ∑ j : Fin N, f j := by
  subst hN
  rw [← finProdFinEquiv.sum_comp, Fintype.sum_prod_type]
  refine Finset.sum_congr rfl fun h _ => Finset.sum_congr rfl fun w _ => congrArg f (Fin.ext ?_)
  simp only [finProdFinEquiv_apply_val]
  ring

/-- The sum over a whole image array, element by element. -/
theorem total (v : FVec Ideal S8x32x32x256 .f32) :
    Host.reduceAdd v (constant (F := Ideal) S_ .f32 0x00000000#32) reducesTo_S8x32x32x256_S_d0_1_2_3 h_S_ ix0
      = ∑ b : Fin 8, ∑ h : Fin 32, ∑ w : Fin 32, ∑ k : Fin 256, (v (ix4 b h w k) : EReal) := by
  pointwise []
  rw [Ideal.hostReduceAdd_total _ (fun b => b.elim0), zero_add, sum_idx4]

/-- The sum of the squared differences the loss is made of. -/
theorem total_squares :
    Host.reduceAdd (mulf (subf (rowsBack (takeOf W (argOf (RefRun.dist z W)))) (nhwc z)) (subf (rowsBack (takeOf W (argOf (RefRun.dist z W)))) (nhwc z)))
      (constant (F := Ideal) S_ .f32 0x00000000#32) reducesTo_S8x32x32x256_S_d0_1_2_3 h_S_ ix0 = squares z W := by
  rw [total]
  have e : ∀ (b : Fin 8) (h w : Fin 32) (k : Fin 256),
      (mulf (subf (rowsBack (takeOf W (argOf (RefRun.dist z W)))) (nhwc z)) (subf (rowsBack (takeOf W (argOf (RefRun.dist z W)))) (nhwc z)) (ix4 b h w k) : EReal)
        = (W (ix2 (near z W b (at2 h w)) k) - tok z b (at2 h w) k) * (W (ix2 (near z W b (at2 h w)) k) - tok z b (at2 h w) k) := by
    intro b h w k
    rw [← back_apply z W b h w k, show tok z b (at2 h w) k = nhwc z (ix4 b h w k) from by
      rw [nhwc_apply]
      unfold tok
      have hw := w.isLt
      congr 2 <;> exact Fin.ext (by simp only []; omega)]
    generalize rowsBack (takeOf W (argOf (RefRun.dist z W))) = T
    generalize nhwc z = P
    pointwise []
  simp only [e]
  unfold squares
  exact Finset.sum_congr rfl fun b _ => sum_pairs (A := 32) (B := 32) (N := 1024) (by norm_num)
    (fun j => ∑ k : Fin 256, (W (ix2 (near z W b j) k) - tok z b j k) * (W (ix2 (near z W b j) k) - tok z b j k)) fun h w => (at2 h w).isLt

/-- The loss of two arrays, from the sum of their squared differences. -/
theorem loss_of (t p : FVec Ideal S8x32x32x256 .f32) : lossOf t p ix0
    = (((1 / 4 : ℝ) : ℝ) : EReal) * Ideal.div (Host.reduceAdd (mulf (subf t p) (subf t p)) (constant (F := Ideal) S_ .f32 0x00000000#32) reducesTo_S8x32x32x256_S_d0_1_2_3 h_S_ ix0) ((2097152 : ℝ) : EReal)
      + Ideal.div (Host.reduceAdd (mulf (subf t p) (subf t p)) (constant (F := Ideal) S_ .f32 0x00000000#32) reducesTo_S8x32x32x256_S_d0_1_2_3 h_S_ ix0) ((2097152 : ℝ) : EReal) := by
  unfold lossOf meanSq
  generalize Host.reduceAdd (mulf (subf t p) (subf t p)) (constant (F := Ideal) S_ .f32 0x00000000#32) reducesTo_S8x32x32x256_S_d0_1_2_3 h_S_ = S
  pointwise []
  rw [Literals.quarter_f32, Literals.count_f32]

/-- The second result. -/
theorem loss_apply : lossOf (rowsBack (takeOf W (argOf (RefRun.dist z W)))) (nhwc z) ix0
    = (((1 / 4 : ℝ) : ℝ) : EReal) * Ideal.div (squares z W) ((2097152 : ℝ) : EReal) + Ideal.div (squares z W) ((2097152 : ℝ) : EReal) := by
  rw [loss_of, total_squares]

end Cert.Proof.RefValue

end
-- ==== Proof.Agree.lean ====
/-
  The two programs' results agree: the third always, the first where the image's element is a real number, the second
  where every element of both arguments is.
-/
module

public import proofs.«01_k».proof.Proof.KernelResult
public import proofs.«01_k».proof.Proof.RefValue

@[expose] public section

set_option maxRecDepth 16384

noncomputable section

namespace Cert.Proof.Agree

open Idealize.ShloMosaic Idealize.ShloMosaic.TcCoe Idealize.SL.Sem
open Cert.Proof.Tokens

/-- A mean of a real sum and a quarter of it are five quarters of it. -/
theorem loss_real (S : EReal) (h : ∃ r : ℝ, S = r) : S * ((5 / 4 / 2097152 : ℝ) : EReal)
    = ((1 / 4 : ℝ) : EReal) * Ideal.div S ((2097152 : ℝ) : EReal) + Ideal.div S ((2097152 : ℝ) : EReal) := by
  obtain ⟨r, rfl⟩ := h
  unfold Ideal.div
  rw [if_neg (by rw [EReal.coe_eq_zero]; norm_num), ← EReal.coe_inv, ← EReal.coe_mul, ← EReal.coe_mul, ← EReal.coe_mul, ← EReal.coe_add]
  congr 1
  ring

/-- Two vectors of words with the same word at every token are equal. -/
theorem same_words (A B : IVec (⟨1, ![8192]⟩ : Shape) 32) (f : Fin 8192 → BitVec 32) (hA : ∀ t, A (ix1 t) = f t) (hB : ∀ t, B (ix1 t) = f t) : A = B := by
  funext i
  obtain ⟨t, rfl⟩ : ∃ t : Fin 8192, i = ix1 t := ⟨i 0, eq_ix1 i⟩
  rw [hA, hB]

/-- Two numbers kept as arrays without axes are equal as arrays. -/
theorem same_number (A B : (⟨0, ![]⟩ : Shape).Idx → EReal) (h : A ix0 = B ix0) : A = B := by
  funext i
  rw [show i = ix0 from funext fun a => a.elim0]
  exact h

/-- Two images are equal at an index where they are equal at its coordinates. -/
theorem same_image (A B z : (⟨4, ![8, 256, 32, 32]⟩ : Shape).Idx → EReal) (f : Fin 8 → Fin 256 → Fin 32 → Fin 32 → EReal)
    (hA : ∀ b k h w, A (ix4 b k h w) = f b k h w) (hB : ∀ b k h w, B (ix4 b k h w) = z (ix4 b k h w) + (f b k h w - z (ix4 b k h w)))
    (i : (⟨4, ![8, 256, 32, 32]⟩ : Shape).Idx) (hz : ∃ r : ℝ, z i = r) : B i = A i := by
  obtain ⟨b, k, h, w, rfl⟩ : ∃ (b : Fin 8) (k : Fin 256) (h w : Fin 32), i = ix4 b k h w := ⟨i 0, i 1, i 2, i 3, eq_ix4 i⟩
  rw [hA, hB]
  exact add_sub_self _ _ hz

variable (m : (ℓ : Loc Cert.KernelIdeal.nD Cert.KernelIdeal.τ Cert.KernelIdeal.sig) → Buf (Elt Ideal) ℓ) (c : Dev Cert.KernelIdeal.nD)

/-- The arguments as the reference reads them. -/
abbrev zOf : FVec Ideal Cert.ReferenceIdeal.S8x256x32x32 .f32 := KRun.argZ m c
abbrev wOf : FVec Ideal Cert.ReferenceIdeal.S1024x256 .f32 := KRun.argW m c

/-- The reference's three results. -/
def ref0 : FVec Ideal Cert.ReferenceIdeal.S8x256x32x32 .f32 :=
  RefRun.zqOf (RefRun.rowsBack (RefRun.takeOf (wOf m c) (RefRun.argOf (RefRun.dist (zOf m c) (wOf m c))))) (RefRun.nhwc (zOf m c))
def ref1 : FVec Ideal Cert.ReferenceIdeal.S_ .f32 :=
  RefRun.lossOf (RefRun.rowsBack (RefRun.takeOf (wOf m c) (RefRun.argOf (RefRun.dist (zOf m c) (wOf m c))))) (RefRun.nhwc (zOf m c))
def ref2 : IVec Cert.ReferenceIdeal.S8192 32 := RefRun.argOf (RefRun.dist (zOf m c) (wOf m c))

theorem ref0_apply (b : Fin 8) (k : Fin 256) (h w : Fin 32) : (ref0 m c (ix4 b k h w) : EReal)
    = zOf m c (ix4 b k h w) + (wOf m c (ix2 (near (zOf m c) (wOf m c) b ⟨h.val * 32 + w.val, (RefValue.at2 h w).isLt⟩) k) - zOf m c (ix4 b k h w)) :=
  RefValue.zq_apply (zOf m c) (wOf m c) b k h w

theorem ref1_apply : (ref1 m c ix0 : EReal) = ((1 / 4 : ℝ) : EReal) * Ideal.div (squares (zOf m c) (wOf m c)) ((2097152 : ℝ) : EReal)
    + Ideal.div (squares (zOf m c) (wOf m c)) ((2097152 : ℝ) : EReal) := RefValue.loss_apply (zOf m c) (wOf m c)

theorem ref2_apply (t : Fin 8192) : ref2 m c (ix1 t)
    = BitVec.ofNat 32 (near (zOf m c) (wOf m c) ⟨t.val / 1024, (RefValue.img t).isLt⟩ ⟨t.val % 1024, (RefValue.lane t).isLt⟩).val :=
  RefValue.index_apply (zOf m c) (wOf m c) t

/-- The indices are equal. -/
theorem third : ref2 m c = KResult.out2 m c := same_words _ _ _ (ref2_apply m c) (KResult.out2_apply m c)

/-- The looked-up images are equal where the image's element is a real number. -/
theorem first (i : (⟨4, ![8, 256, 32, 32]⟩ : Shape).Idx) (hz : ∃ r : ℝ, (zOf m c i : EReal) = r) : (ref0 m c i : EReal) = KResult.out0 m c i :=
  same_image (KResult.out0 m c) (ref0 m c) (zOf m c) _ (KResult.out0_apply m c) (ref0_apply m c) i hz

/-- The losses are equal where all elements are real numbers. -/
theorem second (hz : ∀ i, ∃ r : ℝ, (zOf m c i : EReal) = r) (hW : ∀ i, ∃ r : ℝ, (wOf m c i : EReal) = r) : ref1 m c = KResult.out1 m c := by
  refine same_number _ _ ?_
  rw [ref1_apply]
  refine Eq.trans ?_ (KResult.out1_apply m c).symm
  rw [leasts_eq_squares _ _ hz hW]
  exact (loss_real _ (squares_real _ _ hz hW)).symm

/-! ## The conditions on the arguments -/

section Conditions

variable [Cert.Pre_finite.Facts] [Cert.On_no_precondition.Facts]

/-- A comparison of an absolute value with infinity that holds makes a real number. -/
theorem real_of_cmp (x : EReal) (h : Ideal.cmp .olt (max x (-x)) (Ideal.ofBits .f32 0x7F800000#32) = 1#1) : ∃ r : ℝ, x = r := by
  refine real_of_abs_lt x ?_
  rw [Literals.inf_f32] at h
  unfold Ideal.cmp at h
  by_contra hc
  simp [hc] at h

theorem pre_z (z : FVec Ideal Cert.Pre_finite.S8x256x32x32 .f32) (W : FVec Ideal Cert.Pre_finite.S1024x256 .f32) (i : Cert.Pre_finite.S8x256x32x32.Idx)
    (h : (Cert.Pre_finite.fn (F := Ideal) z W).1 i = 1#1) : ∃ r : ℝ, (z i : EReal) = r := real_of_cmp _ h

theorem pre_w (z : FVec Ideal Cert.Pre_finite.S8x256x32x32 .f32) (W : FVec Ideal Cert.Pre_finite.S1024x256 .f32) (i : Cert.Pre_finite.S1024x256.Idx)
    (h : (Cert.Pre_finite.fn (F := Ideal) z W).2 i = 1#1) : ∃ r : ℝ, (W i : EReal) = r := real_of_cmp _ h

theorem on_z (z : FVec Ideal Cert.On_no_precondition.S8x256x32x32 .f32) (W : FVec Ideal Cert.On_no_precondition.S1024x256 .f32) (i : Cert.On_no_precondition.S8x256x32x32.Idx)
    (h : (Cert.On_no_precondition.fn (F := Ideal) z W).1 i = 1#1) : ∃ r : ℝ, (z i : EReal) = r := real_of_cmp _ h

theorem on_loss (z : FVec Ideal Cert.On_no_precondition.S8x256x32x32 .f32) (W : FVec Ideal Cert.On_no_precondition.S1024x256 .f32) (i : Cert.On_no_precondition.S_.Idx) :
    (Cert.On_no_precondition.fn (F := Ideal) z W).2.1 i ≠ 1#1 := by
  show (0#1 : BitVec 1) ≠ 1#1
  decide

end Conditions

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_no_precondition
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.Kernel

/-- The reference's run, its arguments those of the kernel's memory. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v31) = Agree.ref0 m c
      ∧ r.2.mem ((c.tc : Thread Cert.ReferenceIdeal.nD Cert.ReferenceIdeal.τ).loc Cert.ReferenceIdeal.main_v28) = Agree.ref1 m c
      ∧ r.2.mem ((c.tc : Thread Cert.ReferenceIdeal.nD Cert.ReferenceIdeal.τ).loc Cert.ReferenceIdeal.main_v16) = Agree.ref2 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine (θ_run _ _ _).mono (fun r hr c => ?_) (RefRun.run_main m' g')
  obtain ⟨h0, h1, h2, h3, h4⟩ := hr c
  rw [(h c).1, (h c).2] at h0 h1
  rw [(h c).1, (h c).2] at h2
  exact ⟨h0, h1, h2, h3, h4⟩

/-- Where every element of both arguments is a real number the three results are equal. -/
theorem algebraic_finite : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp h
  refine ⟨KResult.out0 m, KResult.out1 m, KResult.out2 m, KResult.run_main m g, ?_⟩
  refine (θ_run _ _ _).mono (fun r hr c => ?_) (reference_run m m' g' h)
  obtain ⟨h0, h1, h2, h3, h4⟩ := hr c
  have hz := fun i => Agree.pre_z _ _ i (congrFun (hp c).1 i)
  have hW := fun i => Agree.pre_w _ _ i (congrFun (hp c).2 i)
  exact ⟨h0.trans (funext fun i => Agree.first m c i (hz i)), h1.trans (Agree.second m c hz hW), h2.trans (Agree.third m c), h3, h4⟩

/-- The third results are equal, and the first ones wherever the image's element is a real number. -/
theorem algebraic_on : Cert.algebraic_KernelIdeal_ReferenceIdeal_on_no_precondition (hKernelIdeal := Cert.KernelIdeal.Gen.facts)
    (hReferenceIdeal := Cert.ReferenceIdeal.Gen.facts) (hOn_no_precondition := Cert.On_no_precondition.Gen.facts) := by
  intro m g m' g' _ h
  refine ⟨KResult.out0 m, KResult.out1 m, KResult.out2 m, ?_, ?_⟩
  · refine (θ_run _ _ _).mono (fun r hr c => ?_) (KResult.run_main m g)
    obtain ⟨h0, h1, h2, h3, h4⟩ := hr c
    exact ⟨fun i _ => congrFun h0 i, fun i _ => congrFun h1 i, fun i _ => congrFun h2 i, h3, h4⟩
  · refine (θ_run _ _ _).mono (fun r hr c => ?_) (reference_run m m' g' h)
    obtain ⟨h0, h1, h2, h3, h4⟩ := hr c
    exact ⟨fun i hi => (congrFun h0 i).trans (Agree.first m c i (Agree.on_z _ _ i hi)),
      fun i hi => absurd hi (Agree.on_loss _ _ i), fun i _ => congrFun (h2.trans (Agree.third m c)) i, h3, h4⟩

theorem claim : Cert.Claim := ⟨Cert.Kernel.Gen.facts, Cert.KernelIdeal.Gen.facts, Cert.ReferenceIdeal.Gen.facts, Cert.Pre_finite.Gen.facts, Cert.On_no_precondition.Gen.facts,
  fun m ρ _ => Cert.Kernel.Gen.frame m ρ, fun m ρ _ => Cert.KernelIdeal.Gen.frame m ρ, fun m ρ _ => Cert.KernelIdeal.Gen.frame m ρ,
  fun m ρ _ => RefRun.frame m ρ, fun m ρ _ => RefRun.frame m ρ, trivial, algebraic_finite, algebraic_on⟩

end Cert.Proof

end
